-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S2048x1024 : Shape := ⟨2, ![2048, 1024]⟩
abbrev S36 : Shape := ⟨1, ![36]⟩
abbrev S_ : Shape := ⟨0, ![]⟩
abbrev S1 : Shape := ⟨1, ![1]⟩
abbrev S16x1024 : Shape := ⟨2, ![16, 1024]⟩
abbrev S32x1024 : Shape := ⟨2, ![32, 1024]⟩
abbrev S64x1024 : Shape := ⟨2, ![64, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 216 → Bool
  | ⟨i, _⟩ => dmaSemScopedAt i

abbrev sig : RefSig :=
  (ofTc nBuf bufTy 1 216 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7 : BitVec 32 := 2#32
  let v12 : BitVec 32 := Scalar.muli v6 c2_i32_7
  let v13 : BitVec 32 := Scalar.addi c0_i32 v12
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8 : BitVec 32 := 1#32
  let v14 : BitVec 32 := Scalar.muli v5 c1_i32_8
  let v15 : BitVec 32 := Scalar.addi v13 v14
  v15.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v16 : BitVec 32 := Scalar.muli v2 c2_i32_10
  let v17 : BitVec 32 := Scalar.addi c0_i32_11 v16
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_12 : BitVec 32 := 1#32
  let v18 : BitVec 32 := Scalar.muli v7 c1_i32_12
  let v19 : BitVec 32 := Scalar.addi v17 v18
  v19.toNat
def k0_off1 (d0 : Dev nD) (c0_i32_14 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let v20 : BitVec 32 := Scalar.addi v8 c0_i32_14
  let c0_i32_18 : BitVec 32 := 0#32
  ![v20.toNat, 0]
def k0_off1_at (r : Fin 4) : BitVec 32 :=
  if r.val < 2 then
    if r.val < 1 then
      0#32
    else
      16#32
  else
    if r.val < 3 then
      2016#32
    else
      2032#32
def k0_dev3 (d0 : Dev nD) : Nat :=
  let c0_i32_22 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_21 : BitVec 32 := 2#32
  let v25 : BitVec 32 := Scalar.muli v6 c2_i32_21
  let v26 : BitVec 32 := Scalar.addi c0_i32_22 v25
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v27 : BitVec 32 := Scalar.muli v5 c1_i32_23
  let v28 : BitVec 32 := Scalar.addi v26 v27
  v28.toNat
def k0_dev4 (d0 : Dev nD) : Nat :=
  let c0_i32_34 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_33 : BitVec 32 := 2#32
  let v40 : BitVec 32 := Scalar.muli v6 c2_i32_33
  let v41 : BitVec 32 := Scalar.addi c0_i32_34 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_35 : BitVec 32 := 1#32
  let v42 : BitVec 32 := Scalar.muli v5 c1_i32_35
  let v43 : BitVec 32 := Scalar.addi v41 v42
  v43.toNat
def k0_off2 (d0 : Dev nD) (c32_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let v50 : BitVec 32 := Scalar.addi v8 c32_i32
  let c0_i32_42 : BitVec 32 := 0#32
  ![v50.toNat, 0]
def k0_dev5 (d0 : Dev nD) : Nat :=
  let c0_i32_46 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_45 : BitVec 32 := 2#32
  let v55 : BitVec 32 := Scalar.muli v6 c2_i32_45
  let v56 : BitVec 32 := Scalar.addi c0_i32_46 v55
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_47 : BitVec 32 := 1#32
  let v57 : BitVec 32 := Scalar.muli v5 c1_i32_47
  let v58 : BitVec 32 := Scalar.addi v56 v57
  v58.toNat
def k0_off3 (d0 : Dev nD) (c64_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let v65 : BitVec 32 := Scalar.addi v8 c64_i32
  let c0_i32_53 : BitVec 32 := 0#32
  ![v65.toNat, 0]
def k0_dev6 (d0 : Dev nD) : Nat :=
  let c0_i32_57 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_56 : BitVec 32 := 2#32
  let v70 : BitVec 32 := Scalar.muli v6 c2_i32_56
  let v71 : BitVec 32 := Scalar.addi c0_i32_57 v70
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_58 : BitVec 32 := 1#32
  let v72 : BitVec 32 := Scalar.muli v5 c1_i32_58
  let v73 : BitVec 32 := Scalar.addi v71 v72
  v73.toNat
def k0_dev7 (d0 : Dev nD) : Nat :=
  let c0_i32_68 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_67 : BitVec 32 := 2#32
  let v85 : BitVec 32 := Scalar.muli v6 c2_i32_67
  let v86 : BitVec 32 := Scalar.addi c0_i32_68 v85
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_69 : BitVec 32 := 1#32
  let v87 : BitVec 32 := Scalar.muli v5 c1_i32_69
  let v88 : BitVec 32 := Scalar.addi v86 v87
  v88.toNat
def k0_dev8 (d0 : Dev nD) : Nat :=
  let c0_i32_79 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_78 : BitVec 32 := 2#32
  let v100 : BitVec 32 := Scalar.muli v6 c2_i32_78
  let v101 : BitVec 32 := Scalar.addi c0_i32_79 v100
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_80 : BitVec 32 := 1#32
  let v102 : BitVec 32 := Scalar.muli v5 c1_i32_80
  let v103 : BitVec 32 := Scalar.addi v101 v102
  v103.toNat
def k0_dev9 (d0 : Dev nD) : Nat :=
  let c0_i32_90 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_89 : BitVec 32 := 2#32
  let v115 : BitVec 32 := Scalar.muli v6 c2_i32_89
  let v116 : BitVec 32 := Scalar.addi c0_i32_90 v115
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_91 : BitVec 32 := 1#32
  let v117 : BitVec 32 := Scalar.muli v5 c1_i32_91
  let v118 : BitVec 32 := Scalar.addi v116 v117
  v118.toNat
def k0_dev10 (d0 : Dev nD) : Nat :=
  let c0_i32_101 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_100 : BitVec 32 := 2#32
  let v130 : BitVec 32 := Scalar.muli v6 c2_i32_100
  let v131 : BitVec 32 := Scalar.addi c0_i32_101 v130
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_102 : BitVec 32 := 1#32
  let v132 : BitVec 32 := Scalar.muli v5 c1_i32_102
  let v133 : BitVec 32 := Scalar.addi v131 v132
  v133.toNat
def k0_dev11 (d0 : Dev nD) : Nat :=
  let c0_i32_112 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_111 : BitVec 32 := 2#32
  let v145 : BitVec 32 := Scalar.muli v6 c2_i32_111
  let v146 : BitVec 32 := Scalar.addi c0_i32_112 v145
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_113 : BitVec 32 := 1#32
  let v147 : BitVec 32 := Scalar.muli v5 c1_i32_113
  let v148 : BitVec 32 := Scalar.addi v146 v147
  v148.toNat
def k0_dev12 (d0 : Dev nD) : Nat :=
  let c0_i32_123 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_122 : BitVec 32 := 2#32
  let v160 : BitVec 32 := Scalar.muli v6 c2_i32_122
  let v161 : BitVec 32 := Scalar.addi c0_i32_123 v160
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_124 : BitVec 32 := 1#32
  let v162 : BitVec 32 := Scalar.muli v5 c1_i32_124
  let v163 : BitVec 32 := Scalar.addi v161 v162
  v163.toNat
def k0_dev13 (d0 : Dev nD) : Nat :=
  let c0_i32_134 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_133 : BitVec 32 := 2#32
  let v175 : BitVec 32 := Scalar.muli v6 c2_i32_133
  let v176 : BitVec 32 := Scalar.addi c0_i32_134 v175
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_135 : BitVec 32 := 1#32
  let v177 : BitVec 32 := Scalar.muli v5 c1_i32_135
  let v178 : BitVec 32 := Scalar.addi v176 v177
  v178.toNat
def k0_dev14 (d0 : Dev nD) : Nat :=
  let c0_i32_145 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_144 : BitVec 32 := 2#32
  let v190 : BitVec 32 := Scalar.muli v6 c2_i32_144
  let v191 : BitVec 32 := Scalar.addi c0_i32_145 v190
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_146 : BitVec 32 := 1#32
  let v192 : BitVec 32 := Scalar.muli v5 c1_i32_146
  let v193 : BitVec 32 := Scalar.addi v191 v192
  v193.toNat
def k0_dev15 (d0 : Dev nD) : Nat :=
  let c0_i32_156 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_155 : BitVec 32 := 2#32
  let v205 : BitVec 32 := Scalar.muli v6 c2_i32_155
  let v206 : BitVec 32 := Scalar.addi c0_i32_156 v205
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_157 : BitVec 32 := 1#32
  let v207 : BitVec 32 := Scalar.muli v5 c1_i32_157
  let v208 : BitVec 32 := Scalar.addi v206 v207
  v208.toNat
def k0_dev16 (d0 : Dev nD) : Nat :=
  let c0_i32_167 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_166 : BitVec 32 := 2#32
  let v220 : BitVec 32 := Scalar.muli v6 c2_i32_166
  let v221 : BitVec 32 := Scalar.addi c0_i32_167 v220
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_168 : BitVec 32 := 1#32
  let v222 : BitVec 32 := Scalar.muli v5 c1_i32_168
  let v223 : BitVec 32 := Scalar.addi v221 v222
  v223.toNat
def k0_dev17 (d0 : Dev nD) : Nat :=
  let c0_i32_178 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_177 : BitVec 32 := 2#32
  let v235 : BitVec 32 := Scalar.muli v6 c2_i32_177
  let v236 : BitVec 32 := Scalar.addi c0_i32_178 v235
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_179 : BitVec 32 := 1#32
  let v237 : BitVec 32 := Scalar.muli v5 c1_i32_179
  let v238 : BitVec 32 := Scalar.addi v236 v237
  v238.toNat
def k0_dev18 (d0 : Dev nD) : Nat :=
  let c0_i32_189 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_188 : BitVec 32 := 2#32
  let v250 : BitVec 32 := Scalar.muli v6 c2_i32_188
  let v251 : BitVec 32 := Scalar.addi c0_i32_189 v250
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_190 : BitVec 32 := 1#32
  let v252 : BitVec 32 := Scalar.muli v5 c1_i32_190
  let v253 : BitVec 32 := Scalar.addi v251 v252
  v253.toNat
def k0_dev19 (d0 : Dev nD) : Nat :=
  let c0_i32_201 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_200 : BitVec 32 := 2#32
  let v265 : BitVec 32 := Scalar.muli v6 c2_i32_200
  let v266 : BitVec 32 := Scalar.addi c0_i32_201 v265
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_202 : BitVec 32 := 1#32
  let v267 : BitVec 32 := Scalar.muli v5 c1_i32_202
  let v268 : BitVec 32 := Scalar.addi v266 v267
  v268.toNat
def k0_dev20 (d0 : Dev nD) : Nat :=
  let c0_i32_212 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_211 : BitVec 32 := 2#32
  let v280 : BitVec 32 := Scalar.muli v6 c2_i32_211
  let v281 : BitVec 32 := Scalar.addi c0_i32_212 v280
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_213 : BitVec 32 := 1#32
  let v282 : BitVec 32 := Scalar.muli v5 c1_i32_213
  let v283 : BitVec 32 := Scalar.addi v281 v282
  v283.toNat
def k0_dev21 (d0 : Dev nD) : Nat :=
  let c0_i32_223 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_222 : BitVec 32 := 2#32
  let v295 : BitVec 32 := Scalar.muli v6 c2_i32_222
  let v296 : BitVec 32 := Scalar.addi c0_i32_223 v295
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_224 : BitVec 32 := 1#32
  let v297 : BitVec 32 := Scalar.muli v5 c1_i32_224
  let v298 : BitVec 32 := Scalar.addi v296 v297
  v298.toNat
def k0_dev22 (d0 : Dev nD) : Nat :=
  let c0_i32_234 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_233 : BitVec 32 := 2#32
  let v310 : BitVec 32 := Scalar.muli v6 c2_i32_233
  let v311 : BitVec 32 := Scalar.addi c0_i32_234 v310
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_235 : BitVec 32 := 1#32
  let v312 : BitVec 32 := Scalar.muli v5 c1_i32_235
  let v313 : BitVec 32 := Scalar.addi v311 v312
  v313.toNat
def k0_dev23 (d0 : Dev nD) : Nat :=
  let c0_i32_245 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_244 : BitVec 32 := 2#32
  let v325 : BitVec 32 := Scalar.muli v6 c2_i32_244
  let v326 : BitVec 32 := Scalar.addi c0_i32_245 v325
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_246 : BitVec 32 := 1#32
  let v327 : BitVec 32 := Scalar.muli v5 c1_i32_246
  let v328 : BitVec 32 := Scalar.addi v326 v327
  v328.toNat
def k0_dev24 (d0 : Dev nD) : Nat :=
  let c0_i32_256 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_255 : BitVec 32 := 2#32
  let v340 : BitVec 32 := Scalar.muli v6 c2_i32_255
  let v341 : BitVec 32 := Scalar.addi c0_i32_256 v340
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_257 : BitVec 32 := 1#32
  let v342 : BitVec 32 := Scalar.muli v5 c1_i32_257
  let v343 : BitVec 32 := Scalar.addi v341 v342
  v343.toNat
def k0_dev25 (d0 : Dev nD) : Nat :=
  let c0_i32_267 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_266 : BitVec 32 := 2#32
  let v355 : BitVec 32 := Scalar.muli v6 c2_i32_266
  let v356 : BitVec 32 := Scalar.addi c0_i32_267 v355
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_268 : BitVec 32 := 1#32
  let v357 : BitVec 32 := Scalar.muli v5 c1_i32_268
  let v358 : BitVec 32 := Scalar.addi v356 v357
  v358.toNat
def k0_dev26 (d0 : Dev nD) : Nat :=
  let c0_i32_278 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_277 : BitVec 32 := 2#32
  let v370 : BitVec 32 := Scalar.muli v6 c2_i32_277
  let v371 : BitVec 32 := Scalar.addi c0_i32_278 v370
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_279 : BitVec 32 := 1#32
  let v372 : BitVec 32 := Scalar.muli v5 c1_i32_279
  let v373 : BitVec 32 := Scalar.addi v371 v372
  v373.toNat
def k0_dev27 (d0 : Dev nD) : Nat :=
  let c0_i32_289 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_288 : BitVec 32 := 2#32
  let v385 : BitVec 32 := Scalar.muli v6 c2_i32_288
  let v386 : BitVec 32 := Scalar.addi c0_i32_289 v385
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_290 : BitVec 32 := 1#32
  let v387 : BitVec 32 := Scalar.muli v5 c1_i32_290
  let v388 : BitVec 32 := Scalar.addi v386 v387
  v388.toNat
def k0_dev28 (d0 : Dev nD) : Nat :=
  let c0_i32_300 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_299 : BitVec 32 := 2#32
  let v400 : BitVec 32 := Scalar.muli v6 c2_i32_299
  let v401 : BitVec 32 := Scalar.addi c0_i32_300 v400
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_301 : BitVec 32 := 1#32
  let v402 : BitVec 32 := Scalar.muli v5 c1_i32_301
  let v403 : BitVec 32 := Scalar.addi v401 v402
  v403.toNat
def k0_dev29 (d0 : Dev nD) : Nat :=
  let c0_i32_311 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_310 : BitVec 32 := 2#32
  let v415 : BitVec 32 := Scalar.muli v6 c2_i32_310
  let v416 : BitVec 32 := Scalar.addi c0_i32_311 v415
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_312 : BitVec 32 := 1#32
  let v417 : BitVec 32 := Scalar.muli v5 c1_i32_312
  let v418 : BitVec 32 := Scalar.addi v416 v417
  v418.toNat
def k0_dev30 (d0 : Dev nD) : Nat :=
  let c0_i32_322 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_321 : BitVec 32 := 2#32
  let v430 : BitVec 32 := Scalar.muli v6 c2_i32_321
  let v431 : BitVec 32 := Scalar.addi c0_i32_322 v430
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_323 : BitVec 32 := 1#32
  let v432 : BitVec 32 := Scalar.muli v5 c1_i32_323
  let v433 : BitVec 32 := Scalar.addi v431 v432
  v433.toNat
def k0_dev31 (d0 : Dev nD) : Nat :=
  let c0_i32_333 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_332 : BitVec 32 := 2#32
  let v445 : BitVec 32 := Scalar.muli v6 c2_i32_332
  let v446 : BitVec 32 := Scalar.addi c0_i32_333 v445
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_334 : BitVec 32 := 1#32
  let v447 : BitVec 32 := Scalar.muli v5 c1_i32_334
  let v448 : BitVec 32 := Scalar.addi v446 v447
  v448.toNat
def k0_dev32 (d0 : Dev nD) : Nat :=
  let c0_i32_344 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_343 : BitVec 32 := 2#32
  let v460 : BitVec 32 := Scalar.muli v6 c2_i32_343
  let v461 : BitVec 32 := Scalar.addi c0_i32_344 v460
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_345 : BitVec 32 := 1#32
  let v462 : BitVec 32 := Scalar.muli v5 c1_i32_345
  let v463 : BitVec 32 := Scalar.addi v461 v462
  v463.toNat
def k0_dev33 (d0 : Dev nD) : Nat :=
  let c0_i32_355 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_354 : BitVec 32 := 2#32
  let v475 : BitVec 32 := Scalar.muli v6 c2_i32_354
  let v476 : BitVec 32 := Scalar.addi c0_i32_355 v475
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_356 : BitVec 32 := 1#32
  let v477 : BitVec 32 := Scalar.muli v5 c1_i32_356
  let v478 : BitVec 32 := Scalar.addi v476 v477
  v478.toNat
def k0_dev34 (d0 : Dev nD) : Nat :=
  let c0_i32_366 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_365 : BitVec 32 := 2#32
  let v490 : BitVec 32 := Scalar.muli v6 c2_i32_365
  let v491 : BitVec 32 := Scalar.addi c0_i32_366 v490
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_367 : BitVec 32 := 1#32
  let v492 : BitVec 32 := Scalar.muli v5 c1_i32_367
  let v493 : BitVec 32 := Scalar.addi v491 v492
  v493.toNat
def k0_dev35 (d0 : Dev nD) : Nat :=
  let c0_i32_378 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_377 : BitVec 32 := 2#32
  let v505 : BitVec 32 := Scalar.muli v6 c2_i32_377
  let v506 : BitVec 32 := Scalar.addi c0_i32_378 v505
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_379 : BitVec 32 := 1#32
  let v507 : BitVec 32 := Scalar.muli v5 c1_i32_379
  let v508 : BitVec 32 := Scalar.addi v506 v507
  v508.toNat
def k0_dev36 (d0 : Dev nD) : Nat :=
  let c0_i32_389 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_388 : BitVec 32 := 2#32
  let v520 : BitVec 32 := Scalar.muli v6 c2_i32_388
  let v521 : BitVec 32 := Scalar.addi c0_i32_389 v520
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_390 : BitVec 32 := 1#32
  let v522 : BitVec 32 := Scalar.muli v5 c1_i32_390
  let v523 : BitVec 32 := Scalar.addi v521 v522
  v523.toNat
def k0_dev37 (d0 : Dev nD) : Nat :=
  let c0_i32_400 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_399 : BitVec 32 := 2#32
  let v535 : BitVec 32 := Scalar.muli v6 c2_i32_399
  let v536 : BitVec 32 := Scalar.addi c0_i32_400 v535
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_401 : BitVec 32 := 1#32
  let v537 : BitVec 32 := Scalar.muli v5 c1_i32_401
  let v538 : BitVec 32 := Scalar.addi v536 v537
  v538.toNat
def k0_dev38 (d0 : Dev nD) : Nat :=
  let c0_i32_411 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_410 : BitVec 32 := 2#32
  let v550 : BitVec 32 := Scalar.muli v6 c2_i32_410
  let v551 : BitVec 32 := Scalar.addi c0_i32_411 v550
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_412 : BitVec 32 := 1#32
  let v552 : BitVec 32 := Scalar.muli v5 c1_i32_412
  let v553 : BitVec 32 := Scalar.addi v551 v552
  v553.toNat
def k0_dev39 (d0 : Dev nD) : Nat :=
  let c0_i32_437 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_436 : BitVec 32 := 2#32
  let v579 : BitVec 32 := Scalar.muli v2 c2_i32_436
  let v580 : BitVec 32 := Scalar.addi c0_i32_437 v579
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_438 : BitVec 32 := 1#32
  let v581 : BitVec 32 := Scalar.muli v7 c1_i32_438
  let v582 : BitVec 32 := Scalar.addi v580 v581
  v582.toNat
def k0_dev40 (d0 : Dev nD) : Nat :=
  let c0_i32_468 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_467 : BitVec 32 := 2#32
  let v613 : BitVec 32 := Scalar.muli v2 c2_i32_467
  let v614 : BitVec 32 := Scalar.addi c0_i32_468 v613
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_469 : BitVec 32 := 1#32
  let v615 : BitVec 32 := Scalar.muli v7 c1_i32_469
  let v616 : BitVec 32 := Scalar.addi v614 v615
  v616.toNat
def k0_dev41 (d0 : Dev nD) : Nat :=
  let c0_i32_499 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_498 : BitVec 32 := 2#32
  let v647 : BitVec 32 := Scalar.muli v2 c2_i32_498
  let v648 : BitVec 32 := Scalar.addi c0_i32_499 v647
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_500 : BitVec 32 := 1#32
  let v649 : BitVec 32 := Scalar.muli v7 c1_i32_500
  let v650 : BitVec 32 := Scalar.addi v648 v649
  v650.toNat
def k0_dev42 (d0 : Dev nD) : Nat :=
  let c0_i32_530 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_529 : BitVec 32 := 2#32
  let v681 : BitVec 32 := Scalar.muli v2 c2_i32_529
  let v682 : BitVec 32 := Scalar.addi c0_i32_530 v681
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_531 : BitVec 32 := 1#32
  let v683 : BitVec 32 := Scalar.muli v7 c1_i32_531
  let v684 : BitVec 32 := Scalar.addi v682 v683
  v684.toNat
def k0_dev43 (d0 : Dev nD) : Nat :=
  let c0_i32_561 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_560 : BitVec 32 := 2#32
  let v715 : BitVec 32 := Scalar.muli v2 c2_i32_560
  let v716 : BitVec 32 := Scalar.addi c0_i32_561 v715
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_562 : BitVec 32 := 1#32
  let v717 : BitVec 32 := Scalar.muli v7 c1_i32_562
  let v718 : BitVec 32 := Scalar.addi v716 v717
  v718.toNat
def k0_dev44 (d0 : Dev nD) : Nat :=
  let c0_i32_592 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_591 : BitVec 32 := 2#32
  let v749 : BitVec 32 := Scalar.muli v2 c2_i32_591
  let v750 : BitVec 32 := Scalar.addi c0_i32_592 v749
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_593 : BitVec 32 := 1#32
  let v751 : BitVec 32 := Scalar.muli v7 c1_i32_593
  let v752 : BitVec 32 := Scalar.addi v750 v751
  v752.toNat
def k0_dev45 (d0 : Dev nD) : Nat :=
  let c0_i32_623 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_622 : BitVec 32 := 2#32
  let v783 : BitVec 32 := Scalar.muli v2 c2_i32_622
  let v784 : BitVec 32 := Scalar.addi c0_i32_623 v783
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_624 : BitVec 32 := 1#32
  let v785 : BitVec 32 := Scalar.muli v7 c1_i32_624
  let v786 : BitVec 32 := Scalar.addi v784 v785
  v786.toNat
def k0_dev46 (d0 : Dev nD) : Nat :=
  let c0_i32_654 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_653 : BitVec 32 := 2#32
  let v817 : BitVec 32 := Scalar.muli v2 c2_i32_653
  let v818 : BitVec 32 := Scalar.addi c0_i32_654 v817
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_655 : BitVec 32 := 1#32
  let v819 : BitVec 32 := Scalar.muli v7 c1_i32_655
  let v820 : BitVec 32 := Scalar.addi v818 v819
  v820.toNat
def k0_dev47 (d0 : Dev nD) : Nat :=
  let c0_i32_685 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_684 : BitVec 32 := 2#32
  let v851 : BitVec 32 := Scalar.muli v2 c2_i32_684
  let v852 : BitVec 32 := Scalar.addi c0_i32_685 v851
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_686 : BitVec 32 := 1#32
  let v853 : BitVec 32 := Scalar.muli v7 c1_i32_686
  let v854 : BitVec 32 := Scalar.addi v852 v853
  v854.toNat
def k0_dev48 (d0 : Dev nD) : Nat :=
  let c0_i32_716 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_715 : BitVec 32 := 2#32
  let v885 : BitVec 32 := Scalar.muli v2 c2_i32_715
  let v886 : BitVec 32 := Scalar.addi c0_i32_716 v885
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_717 : BitVec 32 := 1#32
  let v887 : BitVec 32 := Scalar.muli v7 c1_i32_717
  let v888 : BitVec 32 := Scalar.addi v886 v887
  v888.toNat
def k0_dev49 (d0 : Dev nD) : Nat :=
  let c0_i32_747 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_746 : BitVec 32 := 2#32
  let v919 : BitVec 32 := Scalar.muli v2 c2_i32_746
  let v920 : BitVec 32 := Scalar.addi c0_i32_747 v919
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_748 : BitVec 32 := 1#32
  let v921 : BitVec 32 := Scalar.muli v7 c1_i32_748
  let v922 : BitVec 32 := Scalar.addi v920 v921
  v922.toNat
def k0_dev50 (d0 : Dev nD) : Nat :=
  let c0_i32_778 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_777 : BitVec 32 := 2#32
  let v953 : BitVec 32 := Scalar.muli v2 c2_i32_777
  let v954 : BitVec 32 := Scalar.addi c0_i32_778 v953
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_779 : BitVec 32 := 1#32
  let v955 : BitVec 32 := Scalar.muli v7 c1_i32_779
  let v956 : BitVec 32 := Scalar.addi v954 v955
  v956.toNat
def k0_dev51 (d0 : Dev nD) : Nat :=
  let c0_i32_809 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_808 : BitVec 32 := 2#32
  let v987 : BitVec 32 := Scalar.muli v2 c2_i32_808
  let v988 : BitVec 32 := Scalar.addi c0_i32_809 v987
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_810 : BitVec 32 := 1#32
  let v989 : BitVec 32 := Scalar.muli v7 c1_i32_810
  let v990 : BitVec 32 := Scalar.addi v988 v989
  v990.toNat
def k0_dev52 (d0 : Dev nD) : Nat :=
  let c0_i32_840 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_839 : BitVec 32 := 2#32
  let v1021 : BitVec 32 := Scalar.muli v2 c2_i32_839
  let v1022 : BitVec 32 := Scalar.addi c0_i32_840 v1021
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_841 : BitVec 32 := 1#32
  let v1023 : BitVec 32 := Scalar.muli v7 c1_i32_841
  let v1024 : BitVec 32 := Scalar.addi v1022 v1023
  v1024.toNat
def k0_dev53 (d0 : Dev nD) : Nat :=
  let c0_i32_871 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_870 : BitVec 32 := 2#32
  let v1055 : BitVec 32 := Scalar.muli v2 c2_i32_870
  let v1056 : BitVec 32 := Scalar.addi c0_i32_871 v1055
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_872 : BitVec 32 := 1#32
  let v1057 : BitVec 32 := Scalar.muli v7 c1_i32_872
  let v1058 : BitVec 32 := Scalar.addi v1056 v1057
  v1058.toNat
def k0_dev54 (d0 : Dev nD) : Nat :=
  let c0_i32_902 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_901 : BitVec 32 := 2#32
  let v1089 : BitVec 32 := Scalar.muli v2 c2_i32_901
  let v1090 : BitVec 32 := Scalar.addi c0_i32_902 v1089
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_903 : BitVec 32 := 1#32
  let v1091 : BitVec 32 := Scalar.muli v7 c1_i32_903
  let v1092 : BitVec 32 := Scalar.addi v1090 v1091
  v1092.toNat
def k0_dev55 (d0 : Dev nD) : Nat :=
  let c0_i32_933 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_932 : BitVec 32 := 2#32
  let v1123 : BitVec 32 := Scalar.muli v2 c2_i32_932
  let v1124 : BitVec 32 := Scalar.addi c0_i32_933 v1123
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_934 : BitVec 32 := 1#32
  let v1125 : BitVec 32 := Scalar.muli v7 c1_i32_934
  let v1126 : BitVec 32 := Scalar.addi v1124 v1125
  v1126.toNat
def k0_dev56 (d0 : Dev nD) : Nat :=
  let c0_i32_964 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_963 : BitVec 32 := 2#32
  let v1157 : BitVec 32 := Scalar.muli v2 c2_i32_963
  let v1158 : BitVec 32 := Scalar.addi c0_i32_964 v1157
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_965 : BitVec 32 := 1#32
  let v1159 : BitVec 32 := Scalar.muli v7 c1_i32_965
  let v1160 : BitVec 32 := Scalar.addi v1158 v1159
  v1160.toNat
def k0_dev57 (d0 : Dev nD) : Nat :=
  let c0_i32_995 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_994 : BitVec 32 := 2#32
  let v1191 : BitVec 32 := Scalar.muli v2 c2_i32_994
  let v1192 : BitVec 32 := Scalar.addi c0_i32_995 v1191
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_996 : BitVec 32 := 1#32
  let v1193 : BitVec 32 := Scalar.muli v7 c1_i32_996
  let v1194 : BitVec 32 := Scalar.addi v1192 v1193
  v1194.toNat
def k0_dev58 (d0 : Dev nD) : Nat :=
  let c0_i32_1026 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1025 : BitVec 32 := 2#32
  let v1225 : BitVec 32 := Scalar.muli v2 c2_i32_1025
  let v1226 : BitVec 32 := Scalar.addi c0_i32_1026 v1225
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1027 : BitVec 32 := 1#32
  let v1227 : BitVec 32 := Scalar.muli v7 c1_i32_1027
  let v1228 : BitVec 32 := Scalar.addi v1226 v1227
  v1228.toNat
def k0_dev59 (d0 : Dev nD) : Nat :=
  let c0_i32_1057 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1056 : BitVec 32 := 2#32
  let v1259 : BitVec 32 := Scalar.muli v2 c2_i32_1056
  let v1260 : BitVec 32 := Scalar.addi c0_i32_1057 v1259
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1058 : BitVec 32 := 1#32
  let v1261 : BitVec 32 := Scalar.muli v7 c1_i32_1058
  let v1262 : BitVec 32 := Scalar.addi v1260 v1261
  v1262.toNat
def k0_dev60 (d0 : Dev nD) : Nat :=
  let c0_i32_1088 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1087 : BitVec 32 := 2#32
  let v1293 : BitVec 32 := Scalar.muli v2 c2_i32_1087
  let v1294 : BitVec 32 := Scalar.addi c0_i32_1088 v1293
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1089 : BitVec 32 := 1#32
  let v1295 : BitVec 32 := Scalar.muli v7 c1_i32_1089
  let v1296 : BitVec 32 := Scalar.addi v1294 v1295
  v1296.toNat
def k0_dev61 (d0 : Dev nD) : Nat :=
  let c0_i32_1119 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1118 : BitVec 32 := 2#32
  let v1327 : BitVec 32 := Scalar.muli v2 c2_i32_1118
  let v1328 : BitVec 32 := Scalar.addi c0_i32_1119 v1327
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1120 : BitVec 32 := 1#32
  let v1329 : BitVec 32 := Scalar.muli v7 c1_i32_1120
  let v1330 : BitVec 32 := Scalar.addi v1328 v1329
  v1330.toNat
def k0_dev62 (d0 : Dev nD) : Nat :=
  let c0_i32_1150 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1149 : BitVec 32 := 2#32
  let v1361 : BitVec 32 := Scalar.muli v2 c2_i32_1149
  let v1362 : BitVec 32 := Scalar.addi c0_i32_1150 v1361
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1151 : BitVec 32 := 1#32
  let v1363 : BitVec 32 := Scalar.muli v7 c1_i32_1151
  let v1364 : BitVec 32 := Scalar.addi v1362 v1363
  v1364.toNat
def k0_dev63 (d0 : Dev nD) : Nat :=
  let c0_i32_1181 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1180 : BitVec 32 := 2#32
  let v1395 : BitVec 32 := Scalar.muli v2 c2_i32_1180
  let v1396 : BitVec 32 := Scalar.addi c0_i32_1181 v1395
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1182 : BitVec 32 := 1#32
  let v1397 : BitVec 32 := Scalar.muli v7 c1_i32_1182
  let v1398 : BitVec 32 := Scalar.addi v1396 v1397
  v1398.toNat
def k0_dev64 (d0 : Dev nD) : Nat :=
  let c0_i32_1212 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1211 : BitVec 32 := 2#32
  let v1429 : BitVec 32 := Scalar.muli v2 c2_i32_1211
  let v1430 : BitVec 32 := Scalar.addi c0_i32_1212 v1429
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1213 : BitVec 32 := 1#32
  let v1431 : BitVec 32 := Scalar.muli v7 c1_i32_1213
  let v1432 : BitVec 32 := Scalar.addi v1430 v1431
  v1432.toNat
def k0_dev65 (d0 : Dev nD) : Nat :=
  let c0_i32_1243 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1242 : BitVec 32 := 2#32
  let v1463 : BitVec 32 := Scalar.muli v2 c2_i32_1242
  let v1464 : BitVec 32 := Scalar.addi c0_i32_1243 v1463
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1244 : BitVec 32 := 1#32
  let v1465 : BitVec 32 := Scalar.muli v7 c1_i32_1244
  let v1466 : BitVec 32 := Scalar.addi v1464 v1465
  v1466.toNat
def k0_dev66 (d0 : Dev nD) : Nat :=
  let c0_i32_1274 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1273 : BitVec 32 := 2#32
  let v1497 : BitVec 32 := Scalar.muli v2 c2_i32_1273
  let v1498 : BitVec 32 := Scalar.addi c0_i32_1274 v1497
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1275 : BitVec 32 := 1#32
  let v1499 : BitVec 32 := Scalar.muli v7 c1_i32_1275
  let v1500 : BitVec 32 := Scalar.addi v1498 v1499
  v1500.toNat
def k0_dev67 (d0 : Dev nD) : Nat :=
  let c0_i32_1305 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1304 : BitVec 32 := 2#32
  let v1531 : BitVec 32 := Scalar.muli v2 c2_i32_1304
  let v1532 : BitVec 32 := Scalar.addi c0_i32_1305 v1531
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1306 : BitVec 32 := 1#32
  let v1533 : BitVec 32 := Scalar.muli v7 c1_i32_1306
  let v1534 : BitVec 32 := Scalar.addi v1532 v1533
  v1534.toNat
def k0_dev68 (d0 : Dev nD) : Nat :=
  let c0_i32_1336 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1335 : BitVec 32 := 2#32
  let v1565 : BitVec 32 := Scalar.muli v2 c2_i32_1335
  let v1566 : BitVec 32 := Scalar.addi c0_i32_1336 v1565
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1337 : BitVec 32 := 1#32
  let v1567 : BitVec 32 := Scalar.muli v7 c1_i32_1337
  let v1568 : BitVec 32 := Scalar.addi v1566 v1567
  v1568.toNat
def k0_dev69 (d0 : Dev nD) : Nat :=
  let c0_i32_1367 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1366 : BitVec 32 := 2#32
  let v1599 : BitVec 32 := Scalar.muli v2 c2_i32_1366
  let v1600 : BitVec 32 := Scalar.addi c0_i32_1367 v1599
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1368 : BitVec 32 := 1#32
  let v1601 : BitVec 32 := Scalar.muli v7 c1_i32_1368
  let v1602 : BitVec 32 := Scalar.addi v1600 v1601
  v1602.toNat
def k0_dev70 (d0 : Dev nD) : Nat :=
  let c0_i32_1398 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1397 : BitVec 32 := 2#32
  let v1633 : BitVec 32 := Scalar.muli v2 c2_i32_1397
  let v1634 : BitVec 32 := Scalar.addi c0_i32_1398 v1633
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1399 : BitVec 32 := 1#32
  let v1635 : BitVec 32 := Scalar.muli v7 c1_i32_1399
  let v1636 : BitVec 32 := Scalar.addi v1634 v1635
  v1636.toNat
def k0_dev71 (d0 : Dev nD) : Nat :=
  let c0_i32_1429 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1428 : BitVec 32 := 2#32
  let v1667 : BitVec 32 := Scalar.muli v2 c2_i32_1428
  let v1668 : BitVec 32 := Scalar.addi c0_i32_1429 v1667
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1430 : BitVec 32 := 1#32
  let v1669 : BitVec 32 := Scalar.muli v7 c1_i32_1430
  let v1670 : BitVec 32 := Scalar.addi v1668 v1669
  v1670.toNat
def k0_dev72 (d0 : Dev nD) : Nat :=
  let c0_i32_1460 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1459 : BitVec 32 := 2#32
  let v1701 : BitVec 32 := Scalar.muli v2 c2_i32_1459
  let v1702 : BitVec 32 := Scalar.addi c0_i32_1460 v1701
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1461 : BitVec 32 := 1#32
  let v1703 : BitVec 32 := Scalar.muli v7 c1_i32_1461
  let v1704 : BitVec 32 := Scalar.addi v1702 v1703
  v1704.toNat
def k0_dev73 (d0 : Dev nD) : Nat :=
  let c0_i32_1491 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1490 : BitVec 32 := 2#32
  let v1735 : BitVec 32 := Scalar.muli v2 c2_i32_1490
  let v1736 : BitVec 32 := Scalar.addi c0_i32_1491 v1735
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1492 : BitVec 32 := 1#32
  let v1737 : BitVec 32 := Scalar.muli v7 c1_i32_1492
  let v1738 : BitVec 32 := Scalar.addi v1736 v1737
  v1738.toNat
def k0_dev74 (d0 : Dev nD) : Nat :=
  let c0_i32_1522 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1521 : BitVec 32 := 2#32
  let v1769 : BitVec 32 := Scalar.muli v2 c2_i32_1521
  let v1770 : BitVec 32 := Scalar.addi c0_i32_1522 v1769
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1523 : BitVec 32 := 1#32
  let v1771 : BitVec 32 := Scalar.muli v7 c1_i32_1523
  let v1772 : BitVec 32 := Scalar.addi v1770 v1771
  v1772.toNat
def k0_off4 (d0 : Dev nD) (c0_i32_1532 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c2048_i32_5 : BitVec 32 := 2048#32
  let v10 : BitVec 32 := Scalar.muli v9 c2048_i32_5
  let v1784 : BitVec 32 := Scalar.addi v10 c0_i32_1532
  let c0_i32_1538 : BitVec 32 := 0#32
  ![v1784.toNat, 0]
def k0_off4_at (r : Fin 4) : BitVec 32 :=
  if r.val < 2 then
    if r.val < 1 then
      0#32
    else
      16#32
  else
    if r.val < 3 then
      2016#32
    else
      2032#32
def k0_off5 (d0 : Dev nD) (c32_i32_1582 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c2048_i32_5 : BitVec 32 := 2048#32
  let v10 : BitVec 32 := Scalar.muli v9 c2048_i32_5
  let v1826 : BitVec 32 := Scalar.addi v10 c32_i32_1582
  let c0_i32_1588 : BitVec 32 := 0#32
  ![v1826.toNat, 0]
def k0_off6 (d0 : Dev nD) (c64_i32_1607 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c2048_i32_5 : BitVec 32 := 2048#32
  let v10 : BitVec 32 := Scalar.muli v9 c2048_i32_5
  let v1847 : BitVec 32 := Scalar.addi v10 c64_i32_1607
  let c0_i32_1613 : BitVec 32 := 0#32
  ![v1847.toNat, 0]
-- ==== ReferenceIdeal.lean ====
abbrev S8192x1024 : Shape := ⟨2, ![8192, 1024]⟩
abbrev S2x4096x1024 : Shape := ⟨3, ![2, 4096, 1024]⟩
abbrev S_ : Shape := ⟨0, ![]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x4096x1024, .f32⟩
  | .hbm, ⟨2, _⟩ => ⟨S_, .f32⟩
  | .hbm, ⟨3, _⟩ => ⟨S4096x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Steps.lean ====
/- The body of the kernel as a sequence of steps over the thirty-six chunks of rows: a handshake with the two
   neighbours, then per chunk the copy in and the send along x, then per chunk the sum and the send along y, then per
   chunk the waits for everything still in flight. -/
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.TwoHop

open Idealize.ShloMosaic Idealize.ShloMosaic.TcCoe
open Idealize.SL Idealize.SL.Sem
open Cert.KernelIdeal Cert.KernelIdeal.Gen

variable {F : FTy → Type} [FloatOps F]

/-- The number of rows of chunk `k`. -/
def sz (k : Fin 36) : ℕ :=
  if k.val < 2 then 16 else if k.val < 3 then 32 else if k.val < 33 then 64 else if k.val < 34 then 32 else 16

/-- The first row of chunk `k` inside its half of 2048 rows. -/
def off (k : Fin 36) : ℕ :=
  if k.val < 3 then 16 * k.val else if k.val < 33 then 64 * (k.val - 3) + 64 else if k.val < 34 then 1984
  else 16 * (k.val - 34) + 2016

/-- The shape of chunk `k`. -/
abbrev SC (k : Fin 36) : Shape := ⟨2, ![sz k, 1024]⟩

theorem half_inb : ∀ k : Fin 36, ∀ a, (![off k, 0] : Fin 2 → Nat) a + (SC k).size a ≤ S2048x1024.size a := by decide +kernel
theorem own_inb : ∀ (d : Dev nD) (k : Fin 36), ∀ a, k0_off1 d (BitVec.ofNat 32 (off k)) a + (SC k).size a ≤ S4096x1024.size a := by
  decide +kernel
theorem other_inb : ∀ (d : Dev nD) (k : Fin 36), ∀ a, k0_off4 d (BitVec.ofNat 32 (off k)) a + (SC k).size a ≤ S4096x1024.size a := by
  decide +kernel
theorem sem_inb : ∀ k : Fin 36, ∀ a, (![k.val] : Fin 1 → Nat) a + S1.size a ≤ S36.size a := by decide +kernel
theorem chunk_pos : ∀ k : Fin 36, 0 < (SC k).numel := by decide +kernel

/-- The rows of chunk `k` in the half of the argument this device reduces. -/
abbrev xRef (d : Dev nD) (k : Fin 36) : Memref sig .tc .hbm (SC k) .f32 :=
  (Memref.whole main_arg0).slice (Rect.unit (s := S4096x1024) (k0_off1 d (BitVec.ofNat 32 (off k))) (SC k).size (own_inb d k)) (fun _ => rfl)
/-- The rows of chunk `k` in the half of the result this device computes. -/
abbrev outRef (d : Dev nD) (k : Fin 36) : Memref sig .tc .hbm (SC k) .f32 :=
  (Memref.whole main_v1).slice (Rect.unit (s := S4096x1024) (k0_off1 d (BitVec.ofNat 32 (off k))) (SC k).size (own_inb d k)) (fun _ => rfl)
/-- The rows of chunk `k` in the other half of the result. -/
abbrev outRef' (d : Dev nD) (k : Fin 36) : Memref sig .tc .hbm (SC k) .f32 :=
  (Memref.whole main_v1).slice (Rect.unit (s := S4096x1024) (k0_off4 d (BitVec.ofNat 32 (off k))) (SC k).size (other_inb d k)) (fun _ => rfl)
/-- The rectangle of chunk `k` in a buffer of 2048 rows. -/
abbrev halfRect (k : Fin 36) : Rect S2048x1024 := Rect.unit (s := S2048x1024) ![off k, 0] (SC k).size (half_inb k)
/-- Chunk `k` of the buffer `r` of 2048 rows. -/
abbrev halfRef (r : Memref sig .tc .vmem S2048x1024 .f32) (k : Fin 36) : Memref sig .tc .vmem (SC k) .f32 :=
  r.slice (halfRect k) (fun _ => rfl)
abbrev xvM : Memref sig .tc .vmem S2048x1024 .f32 := Memref.whole cc0_scratch0
abbrev commM : Memref sig .tc .vmem S2048x1024 .f32 := Memref.whole cc0_scratch1
abbrev sumM : Memref sig .tc .vmem S2048x1024 .f32 := Memref.whole cc0_scratch2

/-- The `k`-th semaphore of an array of thirty-six. -/
def nth (a : DmaSems sig S36) (k : Fin 36) : DmaSem sig :=
  ((a.slice (Rect.unit (s := S36) ![k.val] S1.size (sem_inb k))).squeeze S_ squeezes_S1_S_).sem

/-- The neighbour along x. -/
def xN (d : Dev nD) : Dev nD := ⟨k0_dev3 d, k0_dev3_lt d⟩
/-- The neighbour along y. -/
def yN (d : Dev nD) : Dev nD := ⟨k0_dev39 d, k0_dev39_lt d⟩

/-- A program of this kernel without a result. -/
abbrev Pg (F : FTy → Type) [FloatOps F] := Prog (TpuEff nD τ sig (Elt F) Λ₀ .tc) PUnit

/-- First step of chunk `k`: start the copy of the own half into the working buffer and the send along x. -/
def step1 (d : Dev nD) (k : Fin 36) : Pg F := do
  Prog.lift (.enqueueDma (xRef d k) (.here (halfRef xvM k)) (.dma (nth cc0_scratch3 k)) (View.wordExact_bits rfl) (View.wordExact_bits rfl) ⟨Or.inl rfl, trivial⟩)
  Prog.lift (.enqueueDma (xRef d k) (.remote (Dev.tc (xN d)) (halfRef commM k) (.dma (nth cc0_scratch5 k))) (.dma (nth cc0_scratch6 k)) (View.wordExact_bits rfl) (View.wordExact_bits rfl) ⟨⟨rfl, Or.inl rfl⟩, trivial⟩)

/-- Second step of chunk `k`: wait for both operands, add them, start the send along y and the copy out. -/
def step2 (d : Dev nD) (k : Fin 36) : Pg F := do
  Prog.lift (.waitDma2 (nth cc0_scratch6 k) (xRef d k) (halfRef commM k) (View.wordExact_bits rfl) (View.wordExact_bits rfl))
  Prog.lift (.waitDma2 (nth cc0_scratch3 k) (xRef d k) (halfRef xvM k) (View.wordExact_bits rfl) (View.wordExact_bits rfl))
  let v : Vec F (SC k) .f32 ← Prog.lift (.load xvM (halfRect k).toLoadRect (View.loadsAt_vmem (chunk_pos k)))
  let w : Vec F (SC k) .f32 ← Prog.lift (.load commM (halfRect k).toLoadRect (View.loadsAt_vmem (chunk_pos k)))
  let _ : Vec F (SC k) .f32 ← Prog.lift (.load sumM (halfRect k).toLoadRect (View.loadsAt_vmem (chunk_pos k)))
  Prog.lift (.store sumM (halfRect k) (shapeCast (SC k) (addf v w) rfl) Finset.univ (View.stores_vmem_bits_univ (chunk_pos k) rfl) (.inl rfl))
  Prog.lift (.enqueueDma (halfRef sumM k) (.remote (Dev.tc (yN d)) (outRef d k) (.dma (nth cc0_scratch7 k))) (.dma (nth cc0_scratch8 k)) (View.wordExact_bits rfl) (View.wordExact_bits rfl) ⟨⟨rfl, Or.inl rfl⟩, trivial⟩)
  Prog.lift (.enqueueDma (halfRef sumM k) (.here (outRef d k)) (.dma (nth cc0_scratch4 k)) (View.wordExact_bits rfl) (View.wordExact_bits rfl) ⟨Or.inl rfl, trivial⟩)

/-- Third step of chunk `k`: wait for the neighbour's half, for the copy out and for both sends. -/
def step3 (d : Dev nD) (k : Fin 36) : Pg F := do
  Prog.lift (.waitDma2 (nth cc0_scratch8 k) (halfRef sumM k) (outRef' d k) (View.wordExact_bits rfl) (View.wordExact_bits rfl))
  Prog.lift (.waitDma2 (nth cc0_scratch4 k) (halfRef sumM k) (outRef d k) (View.wordExact_bits rfl) (View.wordExact_bits rfl))
  Prog.lift (.waitDma2 (nth cc0_scratch5 k) (halfRef commM k) (xRef d k) (View.wordExact_bits rfl) (View.wordExact_bits rfl))
  Prog.lift (.waitDma2 (nth cc0_scratch7 k) (outRef d k) (halfRef sumM k) (View.wordExact_bits rfl) (View.wordExact_bits rfl))

/-- The steps from index `k` on, `n` of them. -/
def steps (s : Fin 36 → Pg F) : (n k : ℕ) → n + k = 36 → Pg F → Pg F
  | 0, _, _, r => r
  | n + 1, k, h, r => s ⟨k, by omega⟩ >>= fun _ => steps s n (k + 1) (by omega) r

/-- The body. -/
def prog : Pg F := do
  let d : Dev nD ← Prog.lift .deviceId
  semSignalWord (⟨k0_dev1 d, k0_dev1_lt d⟩ : Dev nD) barrier0 1#32
  semSignalWord (⟨k0_dev2 d, k0_dev2_lt d⟩ : Dev nD) barrier0 1#32
  semWaitWord barrier0 2#32
  steps (step1 d) 36 0 rfl (steps (step2 d) 36 0 rfl (steps (step3 d) 36 0 rfl (pure ⟨⟩)))

theorem body_eq : bodyAt0 (F := F) t0_0 = prog := rfl

end Cert.TwoHop

end
-- ==== Proof.Rows.lean ====
/- Where the rows of each chunk lie: the mesh's two neighbour maps, the rows a chunk covers in a buffer of 2048 rows and
   in one of 4096 rows, and that the chunks tile both. -/
module

public import proofs.«01_k».proof.Proof.Steps
public import Idealize.ShloMosaic.Lib.Pipeline.ValueKit.Geometry

@[expose] public section

noncomputable section

namespace Cert.TwoHop

open Idealize.ShloMosaic Idealize.ShloMosaic.TcCoe
open Idealize.SL Idealize.SL.Sem
open Cert.KernelIdeal Cert.KernelIdeal.Gen

/-! ## The mesh -/

theorem xN_xN : ∀ d : Dev nD, xN (xN d) = d := by decide +kernel
theorem yN_yN : ∀ d : Dev nD, yN (yN d) = d := by decide +kernel
theorem dev1_xN : ∀ d : Dev nD, (⟨k0_dev1 d, k0_dev1_lt d⟩ : Dev nD) = xN d := by decide +kernel
theorem dev2_yN : ∀ d : Dev nD, (⟨k0_dev2 d, k0_dev2_lt d⟩ : Dev nD) = yN d := by decide +kernel
theorem xN_val : ∀ d : Dev nD, (xN d).val = (d.val + 2) % 4 := by decide +kernel
/-- The neighbour along x has the same position along y, -/
theorem xN_mod : ∀ d : Dev nD, (xN d).val % 2 = d.val % 2 := by decide +kernel
/-- the neighbour along y the other one, -/
theorem yN_mod : ∀ d : Dev nD, (yN d).val % 2 = 1 - d.val % 2 := by decide +kernel
/-- and the same position along x. -/
theorem yN_div : ∀ d : Dev nD, (yN d).val / 2 = d.val / 2 := by decide +kernel
theorem xN_div : ∀ d : Dev nD, (xN d).val / 2 = 1 - d.val / 2 := by decide +kernel

/-- The two neighbour maps as permutations of the devices. -/
def xSwap : Dev nD ≃ Dev nD := ⟨xN, xN, xN_xN, xN_xN⟩
def ySwap : Dev nD ≃ Dev nD := ⟨yN, yN, yN_yN, yN_yN⟩

/-! ## The rows of a chunk -/

theorem own_off : ∀ (d : Dev nD) (k : Fin 36),
    k0_off1 d (BitVec.ofNat 32 (off k)) 0 = 2048 * (d.val % 2) + off k ∧ k0_off1 d (BitVec.ofNat 32 (off k)) 1 = 0 := by
  decide +kernel

/-- A later chunk begins where an earlier one has ended. -/
theorem off_sep : ∀ k k' : Fin 36, k < k' → off k + sz k ≤ off k' := by decide +kernel
theorem off_end : ∀ k : Fin 36, off k + sz k ≤ 2048 := by decide +kernel
/-- Every row of a half lies in a chunk. -/
theorem off_cover : ∀ r : Fin 2048, ∃ k : Fin 36, off k ≤ r.val ∧ r.val < off k + sz k := by decide +kernel

/-- The rectangle of chunk `k` in the half that device `d` reduces, in a buffer of 4096 rows. -/
abbrev ownRect (d : Dev nD) (k : Fin 36) : Rect S4096x1024 :=
  Rect.unit (s := S4096x1024) (k0_off1 d (BitVec.ofNat 32 (off k))) (SC k).size (own_inb d k)

theorem mem_half (k : Fin 36) (i : S2048x1024.Idx) :
    i ∈ (halfRect k).set ↔ off k ≤ (i 0).val ∧ (i 0).val < off k + sz k := by
  rw [Rect.mem_set_unit, Fin.forall_fin_two]
  have h1 : (i 1).val < 1024 := (i 1).isLt
  have e1 : (SC k).size 1 = 1024 := rfl
  have e0 : (SC k).size 0 = sz k := rfl
  rw [e1, e0]
  have z1 : (![off k, 0] : Fin 2 → ℕ) 1 = 0 := rfl
  have z0 : (![off k, 0] : Fin 2 → ℕ) 0 = off k := rfl
  rw [z1, z0]
  omega

theorem mem_own (d : Dev nD) (k : Fin 36) (i : S4096x1024.Idx) :
    i ∈ (ownRect d k).set ↔ 2048 * (d.val % 2) + off k ≤ (i 0).val ∧ (i 0).val < 2048 * (d.val % 2) + off k + sz k := by
  rw [Rect.mem_set_unit, Fin.forall_fin_two]
  have h1 : (i 1).val < 1024 := (i 1).isLt
  have e1 : (SC k).size 1 = 1024 := rfl
  have e0 : (SC k).size 0 = sz k := rfl
  rw [e1, e0, (own_off d k).1, (own_off d k).2]
  omega

theorem half_disj (k k' : Fin 36) (h : k ≠ k') : Disjoint (halfRect k).set (halfRect k').set := by
  rw [Finset.disjoint_left]; intro i hi hi'
  rw [mem_half] at hi hi'
  rcases lt_or_gt_of_ne h with h | h
  · have := off_sep _ _ h; omega
  · have := off_sep _ _ h; omega

theorem half_cover : Finset.univ.biUnion (fun k => (halfRect k).set) = Finset.univ := by
  ext i
  simp only [Finset.mem_biUnion, Finset.mem_univ, true_and, iff_true, mem_half]
  exact off_cover ⟨(i 0).val, (i 0).isLt⟩

/-- The two halves of a buffer of 4096 rows seen from device `d`: its own and that of its neighbour along y. -/
def side (d : Dev nD) (b : Bool) : Dev nD := if b then yN d else d

theorem own_disj (d : Dev nD) (p p' : Bool × Fin 36) (h : p ≠ p') :
    Disjoint (ownRect (side d p.1) p.2).set (ownRect (side d p'.1) p'.2).set := by
  rw [Finset.disjoint_left]; intro i hi hi'
  rw [mem_own] at hi hi'
  obtain ⟨b, k⟩ := p; obtain ⟨b', k'⟩ := p'
  have hy := yN_mod d
  have e := off_end k; have e' := off_end k'
  have hm : d.val % 2 < 2 := Nat.mod_lt _ (by decide)
  by_cases hb : b = b'
  · subst hb
    have hk : k ≠ k' := fun hk => h (by rw [hk])
    rcases lt_or_gt_of_ne hk with hk | hk
    · have := off_sep _ _ hk; dsimp only at hi hi'; omega
    · have := off_sep _ _ hk; dsimp only at hi hi'; omega
  · cases b <;> cases b' <;> first | exact hb rfl | skip
    all_goals simp only [side, if_true, Bool.false_eq_true, if_false, hy] at hi hi'; omega

theorem own_cover (d : Dev nD) : Finset.univ.biUnion (fun p : Bool × Fin 36 => (ownRect (side d p.1) p.2).set) = Finset.univ := by
  ext i
  simp only [Finset.mem_biUnion, Finset.mem_univ, true_and, iff_true, mem_own]
  have hi : (i 0).val < 4096 := (i 0).isLt
  have hm : d.val % 2 < 2 := Nat.mod_lt _ (by decide)
  obtain ⟨k, hk⟩ := off_cover ⟨(i 0).val % 2048, Nat.mod_lt _ (by decide)⟩
  dsimp only at hk
  by_cases hd : (i 0).val / 2048 = d.val % 2
  · exact ⟨(false, k), by simp only [side, Bool.false_eq_true, if_false]; omega⟩
  · exact ⟨(true, k), by simp only [side, if_true, yN_mod]; omega⟩

/-! ## An entry of a chunk, placed in its buffer -/

/-- Row `i` of a half, in the half that device `d` reduces. -/
def up (d : Dev nD) (i : S2048x1024.Idx) : S4096x1024.Idx
  | ⟨0, _⟩ => ⟨2048 * (d.val % 2) + (i 0).val, by
      have : (i 0).val < 2048 := (i 0).isLt
      have hm : d.val % 2 < 2 := Nat.mod_lt _ (by decide)
      show _ < 4096; omega⟩
  | ⟨1, _⟩ => i 1

/-- Row `i` of 4096, inside its half. -/
def down (i : S4096x1024.Idx) : S2048x1024.Idx
  | ⟨0, _⟩ => ⟨(i 0).val % 2048, Nat.mod_lt _ (by decide)⟩
  | ⟨1, _⟩ => i 1

theorem own_emb (d : Dev nD) (k : Fin 36) (j : (SC k).Idx) : (ownRect d k).emb j = up d ((halfRect k).emb j) := by
  funext a; apply Fin.ext
  refine (ValueKit.rect_emb_unit_val (s := S4096x1024) _ _ (own_inb d k) j a).trans ?_
  match a with
  | ⟨0, _⟩ =>
    refine Eq.trans ?_ (congrArg (2048 * (d.val % 2) + ·) (ValueKit.rect_emb_unit_val (s := S2048x1024) _ _ (half_inb k) j 0).symm)
    have := (own_off d k).1
    show k0_off1 d (BitVec.ofNat 32 (off k)) 0 + (j 0).val = 2048 * (d.val % 2) + (off k + (j 0).val)
    omega
  | ⟨1, _⟩ =>
    refine Eq.trans ?_ (ValueKit.rect_emb_unit_val (s := S2048x1024) _ _ (half_inb k) j 1).symm
    have := (own_off d k).2
    show k0_off1 d (BitVec.ofNat 32 (off k)) 1 + (j 1).val = 0 + (j 1).val
    omega

theorem down_up (d : Dev nD) (i : S2048x1024.Idx) : down (up d i) = i := by
  funext a; apply Fin.ext
  match a with
  | ⟨0, _⟩ =>
    have : (i 0).val < 2048 := (i 0).isLt
    show (2048 * (d.val % 2) + (i 0).val) % 2048 = (i 0).val
    omega
  | ⟨1, _⟩ => rfl

theorem up_half (d : Dev nD) (i : S2048x1024.Idx) : (up d i 0).val / 2048 = d.val % 2 := by
  have : (i 0).val < 2048 := (i 0).isLt
  show (2048 * (d.val % 2) + (i 0).val) / 2048 = d.val % 2
  omega

/-! ## The semaphores -/

/-- The six arrays of semaphores: copies in, copies out, sends and arrivals along x, sends and arrivals along y. -/
def semArr : Fin 6 → DmaSems sig S36
  | 0 => cc0_scratch3 | 1 => cc0_scratch4 | 2 => cc0_scratch5 | 3 => cc0_scratch6 | 4 => cc0_scratch7 | 5 => cc0_scratch8

/-- The `k`-th semaphore of the `a`-th array. -/
def sem (p : Fin 6 × Fin 36) : DmaSem sig := nth (semArr p.1) p.2

/-- The array and position of a semaphore. -/
def posOf (s : DmaSem sig) : Fin 6 × Fin 36 := (⟨s.val / 36 % 6, Nat.mod_lt _ (by decide)⟩, ⟨s.val % 36, Nat.mod_lt _ (by decide)⟩)

theorem posOf_sem : ∀ p : Fin 6 × Fin 36, posOf (sem p) = p := by decide +kernel

theorem sem_inj : Function.Injective sem := fun p q h => by rw [← posOf_sem p, h, posOf_sem]

end Cert.TwoHop

end
-- ==== Proof.Cells.lean ====
/- The protocol: what each buffer holds when the kernel is through, the pieces of buffers that travel with each semaphore,
   the schedule of who pays which semaphore what, and what each device owes its neighbours. -/
module

public import proofs.«01_k».proof.Proof.Rows
public import Idealize.ShloMosaic.Lib.Pipeline.Launch
public import Idealize.ShloMosaic.Lib.Pipeline.Kit
public import Idealize.ShloMosaic.Lib.Tactic

@[expose] public section

noncomputable section

namespace Cert.TwoHop

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The ghost state: one copy for the launch, one for the semaphores of this kernel, whose raises are named by `Bool`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## Contents -/

/-- The argument of device `c`, -/
def X (c : Dev nD) : Buf (Elt F) ((c : Thread nD τ).loc main_arg0) := m _
/-- the half of it that the device reduces, -/
def XV (c : Dev nD) : Buf (Elt F) ((c : Thread nD τ).loc cc0_scratch0) := fun i => X m c (up c i)
/-- the same half of its neighbour along x, -/
def CM (c : Dev nD) : Buf (Elt F) ((c : Thread nD τ).loc cc0_scratch1) := fun i => X m (xN c) (up c i)
/-- their sum, -/
def SM (c : Dev nD) : Buf (Elt F) ((c : Thread nD τ).loc cc0_scratch2) :=
  addf (F := F) (s := S2048x1024) (φ := .f32) (XV m c) (CM m c)
/-- and the result: each half summed by the device that reduces it. -/
def OUT (c : Dev nD) : Buf (Elt F) ((c : Thread nD τ).loc main_v1) := fun i =>
  SM m (if (i 0).val / 2048 = c.val % 2 then c else yN c) (down i)

/-! ## Pieces of buffers -/

/-- The elements device `c` sees through `r`, at share `q`, holding `f`. -/
abbrev piece {sp : Space} {s : Shape} {e : EltTy} (c : Dev nD) (r : Memref sig .tc sp s e) (q : PosShare TreeShare)
    (f : Buf (Elt F) (r.view.loc (c : Thread nD τ))) : sProp 𝕄 :=
  r.view.loc (c : Thread nD τ) ↦[r.view.set]{q} f

/-- The left and the right half of a piece make it whole. -/
theorem piece_halves {sp : Space} {s : Shape} {e : EltTy} (c : Dev nD) (r : Memref sig .tc sp s e)
    (f : Buf (Elt F) (r.view.loc (c : Thread nD τ))) :
    (piece c r fullShare f : sProp 𝕄) ⊣⊢ iprop(piece c r fullShare.left f ∗ piece c r fullShare.right f) :=
  pointsTo_share (PosShare.mem_left_op_right fullShare)

/-- A piece written with what `w` says holds any contents that read as `w` there. -/
theorem piece_write {sp : Space} {s : Shape} {e : EltTy} (c : Dev nD) (r : Memref sig .tc sp s e) (q : PosShare TreeShare)
    (f g : Buf (Elt F) (r.view.loc (c : Thread nD τ))) (w : s.Idx → Elt F e) (h : r.view.read (Elt F) g = w) :
    (piece c r q (r.view.write (Elt F) f w Finset.univ) : sProp 𝕄) = piece c r q g := by
  refine pointsTo_congr fun i hi => ?_
  obtain ⟨j, -, rfl⟩ := Finset.mem_map.mp hi
  rw [View.write_emb_of_mem _ _ (Finset.mem_univ j), ← h, View.read_apply]
  exact (cast_cast _ _ _).trans (cast_eq _ _)

/-- What the working buffer, the landing buffer and the sums read at chunk `k`. -/
theorem read_XV (c : Dev nD) (k : Fin 36) :
    (halfRef xvM k).view.read (Elt F) (XV m c) = (xRef c k).view.read (Elt F) (X m c) := by
  funext j; exact congrArg (X m c) (own_emb c k j).symm

theorem read_CM (c : Dev nD) (k : Fin 36) :
    (halfRef commM k).view.read (Elt F) (CM m (xN c)) = (xRef c k).view.read (Elt F) (X m c) := by
  funext j
  show X m (xN (xN c)) (up (xN c) ((halfRect k).emb j)) = X m c ((ownRect c k).emb j)
  rw [own_emb, xN_xN]
  refine congrArg (X m c) (funext fun a => Fin.ext ?_)
  match a with
  | ⟨0, _⟩ =>
    show 2048 * ((xN c).val % 2) + _ = 2048 * (c.val % 2) + _
    rw [xN_mod]
  | ⟨1, _⟩ => rfl

theorem read_SM (c : Dev nD) (k : Fin 36) :
    (halfRef sumM k).view.read (Elt F) (SM m c)
      = shapeCast (SC k) (addf (F := F) (s := SC k) (φ := .f32) ((halfRef xvM k).view.read (Elt F) (XV m c)) ((halfRef commM k).view.read (Elt F) (CM m c))) rfl := by
  rw [shapeCast_self]; rfl

theorem read_OUT (c e : Dev nD) (he : e = c ∨ e = yN c) (k : Fin 36) :
    (outRef e k).view.read (Elt F) (OUT m c) = (halfRef sumM k).view.read (Elt F) (SM m e) := by
  funext j
  show OUT m c ((ownRect e k).emb j) = SM m e ((halfRect k).emb j)
  rw [own_emb]
  show SM m (if (up e ((halfRect k).emb j) 0).val / 2048 = c.val % 2 then c else yN c) (down (up e ((halfRect k).emb j))) = _
  rw [down_up, up_half]
  have hy := yN_mod c
  have hm : c.val % 2 < 2 := Nat.mod_lt _ (by decide)
  rcases he with rfl | rfl
  · rw [if_pos rfl]
  · rw [if_neg (by omega)]

/-! ## The cells and the schedule -/

abbrev barC (d : Dev nD) : GSem nD τ sig := ((d : Thread nD τ), .reg barrier0)
abbrev dmaC (d : Dev nD) (p : Fin 6 × Fin 36) : GSem nD τ sig := ((d : Thread nD τ), .dma (sem p))

/-- The credit of a transfer of chunk `k`. -/
def credit (k : Fin 36) : ℕ := (halfRef xvM k).view.dmaCredit
theorem credit_pos (k : Fin 36) : 0 < credit k := View.dmaCredit_pos _ (chunk_pos k)

/-- What a finished transfer brings the waiting device. -/
def dmaPay (d : Dev nD) : Fin 6 → Fin 36 → sProp 𝕄
  | 0, k => iprop(piece d (halfRef xvM k) fullShare (XV m d) ∗ piece d (xRef d k) fullShare.left (X m d))
  | 1, k => iprop(piece d (outRef d k) fullShare (OUT m d) ∗ piece d (halfRef sumM k) fullShare.left (SM m d))
  | 2, k => piece d (xRef d k) fullShare.right (X m d)
  | 3, k => piece d (halfRef commM k) fullShare (CM m d)
  | 4, k => piece d (halfRef sumM k) fullShare.right (SM m d)
  | 5, k => piece d (outRef (yN d) k) fullShare (OUT m d)

/-- What the two neighbours grant at the start: the one along x its landing buffer, the one along y the half of its
    result that it does not compute. -/
def barPay (d : Dev nD) : Bool → sProp 𝕄
  | false => bigSep Finset.univ fun k => iprop(∃ f, piece (F := F) (xN d) (halfRef commM k) fullShare f)
  | true => bigSep Finset.univ fun k => iprop(∃ f, piece (F := F) (yN d) (outRef d k) fullShare f)

instance dmaPay_storable (d : Dev nD) (a : Fin 6) (k : Fin 36) : BI.Storable (upEmb : UEmb _ 𝕄) (dmaPay m d a k) := by
  unfold dmaPay; split <;> infer_instance
omit [FloatOps F] in
instance barPay_storable (d : Dev nD) (b : Bool) : BI.Storable (upEmb : UEmb _ 𝕄) (barPay (F := F) d b) := by
  unfold barPay; split <;> infer_instance

/-- What raises a semaphore: one unit from each neighbour for the start semaphore, for any other the one transfer, -/
def dutyOf : SemLoc sig → Finset Bool | .reg _ => Finset.univ | .dma _ => {false}
/-- by how much, -/
def amountOf : SemLoc sig → ℕ | .reg _ => 1 | .dma s => credit (posOf s).2
/-- and what comes with it. -/
def payOf (d : Dev nD) (b : Bool) : SemLoc sig → sProp 𝕄 | .reg _ => barPay d b | .dma s => dmaPay m d (posOf s).1 (posOf s).2

theorem amountOf_pos : ∀ g, 0 < amountOf g
  | .reg _ => Nat.one_pos
  | .dma s => credit_pos _
instance payOf_storable (d : Dev nD) (b : Bool) : ∀ g, BI.Storable (upEmb : UEmb _ 𝕄) (payOf m d b g)
  | .reg _ => barPay_storable d b
  | .dma s => dmaPay_storable m d _ _

/-- The schedule, of one round. -/
def Rd : Rounds.Schedule (GSem nD τ sig) Bool 𝕄 where
  duties g r := if r = 0 ∧ g.1.2 = .tc then dutyOf g.2 else ∅
  unitless _ := False
  amount g _ _ := amountOf g.2
  payload g _ b := payOf m g.1.1 b g.2
  amount_pos g _ _ _ := amountOf_pos g.2

instance Rd_storable (g : GSem nD τ sig) (r : ℕ) (b : Bool) : BI.Storable (upEmb : UEmb _ 𝕄) ((Rd m).payload g r b) :=
  payOf_storable m g.1.1 b g.2

section Sched
variable (d : Dev nD) (p : Fin 6 × Fin 36)

theorem duties_bar : (Rd m).duties (barC d) 0 = Finset.univ := by
  show (if 0 = 0 ∧ (d : Thread nD τ).2 = .tc then _ else ∅) = _; exact if_pos (And.intro rfl rfl)
theorem duties_dma : (Rd m).duties (dmaC d p) 0 = {false} := by
  show (if 0 = 0 ∧ (d : Thread nD τ).2 = .tc then _ else ∅) = _; exact if_pos (And.intro rfl rfl)
theorem duties_later (g : GSem nD τ sig) : ∀ r, 1 ≤ r → (Rd m).duties g r = ∅ :=
  fun r hr => if_neg fun h => by omega

theorem amount_bar (b : Bool) : (Rd m).amount (barC d) 0 b = 1 := rfl
theorem amount_dma (b : Bool) : (Rd m).amount (dmaC d p) 0 b = credit p.2 := by
  show credit (posOf (sem p)).2 = _; rw [posOf_sem]

theorem expect_bar : (Rd m).expect (barC d) 0 = 2 := by
  unfold Schedule.expect Schedule.amountOf; rw [duties_bar]; rfl
theorem expect_dma : (Rd m).expect (dmaC d p) 0 = credit p.2 := by
  unfold Schedule.expect Schedule.amountOf; rw [duties_dma, Finset.sum_singleton, amount_dma]

theorem payload_bar (b : Bool) : (Rd m).payload (barC d) 0 b = barPay d b := rfl
theorem payload_dma (b : Bool) : (Rd m).payload (dmaC d p) 0 b = dmaPay m d p.1 p.2 := by
  show dmaPay m d (posOf (sem p)).1 (posOf (sem p)).2 = _; rw [posOf_sem]

theorem rest_bar : bigSep ((Rd m).duties (barC d) 0 \ ∅) (fun b => (Rd m).payload (barC d) 0 b) = iprop(barPay (F := F) d false ∗ barPay d true) := by
  rw [Finset.sdiff_empty, duties_bar, show (Finset.univ : Finset Bool) = insert false {true} from by decide,
    bigSep_insert (by decide), bigSep_singleton]
  rfl
theorem rest_dma : bigSep ((Rd m).duties (dmaC d p) 0 \ ∅) (fun b => (Rd m).payload (dmaC d p) 0 b) = dmaPay m d p.1 p.2 := by
  rw [Finset.sdiff_empty, duties_dma, bigSep_singleton, payload_dma]

end Sched

/-! ## What a device owes its neighbours -/

/-- The arrivals along x of the chunks from `n` on, -/
def OX (c : Dev nD) (n : ℕ) : CellTallies nD τ sig Unit :=
  ∑ k ∈ Finset.univ.filter (fun k : Fin 36 => n ≤ k.val), tallyAt (dmaC (xN c) (3, k)) () (credit k)
/-- and those along y. -/
def OY (c : Dev nD) (n : ℕ) : CellTallies nD τ sig Unit :=
  ∑ k ∈ Finset.univ.filter (fun k : Fin 36 => n ≤ k.val), tallyAt (dmaC (yN c) (5, k)) () (credit k)
/-- At the start all of them, and a unit on the start semaphore of each neighbour. -/
def O₀ (c : Dev nD) : CellTallies nD τ sig Unit :=
  OX c 0 + OY c 0 + tallyAt (barC (yN c)) () 1 + tallyAt (barC (xN c)) () 1

theorem filter_from (n : ℕ) (h : n < 36) :
    (Finset.univ.filter fun k : Fin 36 => n ≤ k.val) = insert (⟨n, h⟩ : Fin 36) (Finset.univ.filter fun k : Fin 36 => n + 1 ≤ k.val) := by
  ext k
  simp only [Finset.mem_filter, Finset.mem_univ, true_and, Finset.mem_insert, Fin.ext_iff]
  omega

theorem filter_from_nmem (n : ℕ) (h : n < 36) : (⟨n, h⟩ : Fin 36) ∉ (Finset.univ.filter fun k : Fin 36 => n + 1 ≤ k.val) := by
  simp

theorem filter_zero : (Finset.univ.filter fun k : Fin 36 => 0 ≤ k.val) = Finset.univ := by simp
theorem filter_end : (Finset.univ.filter fun k : Fin 36 => 36 ≤ k.val) = ∅ := by
  ext k; have := k.isLt; simp

theorem OX_peel (c : Dev nD) (k : Fin 36) : OX c k.val = OX c (k.val + 1) + tallyAt (dmaC (xN c) (3, k)) () (credit k) := by
  unfold OX; rw [filter_from k.val k.isLt, Finset.sum_insert (filter_from_nmem _ _), add_comm]
theorem OY_peel (c : Dev nD) (k : Fin 36) : OY c k.val = OY c (k.val + 1) + tallyAt (dmaC (yN c) (5, k)) () (credit k) := by
  unfold OY; rw [filter_from k.val k.isLt, Finset.sum_insert (filter_from_nmem _ _), add_comm]
theorem OX_end (c : Dev nD) : OX c 36 = 0 := by unfold OX; rw [filter_end, Finset.sum_empty]
theorem OY_end (c : Dev nD) : OY c 36 = 0 := by unfold OY; rw [filter_end, Finset.sum_empty]

theorem sum_pos {c : Dev nD} {a : Fin 6} {s : Finset (Fin 36)} {g : GSem nD τ sig} {u : Unit}
    (h : 0 < (∑ k ∈ s, tallyAt (dmaC c (a, k)) () (credit k) : CellTallies nD τ sig Unit) g u) : ∃ k, g = dmaC c (a, k) := by
  rw [Finset.sum_apply, Finsupp.finset_sum_apply] at h
  obtain ⟨k, -, hk⟩ := Finset.exists_ne_zero_of_sum_ne_zero (Nat.pos_iff_ne_zero.mp h)
  rw [tallyAt_apply] at hk
  by_contra hn
  exact hk (if_neg fun h' => hn ⟨k, h'.1⟩)

theorem OX_pos {c : Dev nD} {n : ℕ} {g : GSem nD τ sig} {u : Unit} (h : 0 < OX c n g u) : ∃ k, g = dmaC (xN c) (3, k) := sum_pos h
theorem OY_pos {c : Dev nD} {n : ℕ} {g : GSem nD τ sig} {u : Unit} (h : 0 < OY c n g u) : ∃ k, g = dmaC (yN c) (5, k) := sum_pos h

/-! ## Levels -/

def L (g : GSem nD τ sig) : Finset Unit := if g.1.2 = .tc then {()} else ∅
/-- The start semaphore comes before the arrivals along x, those before the arrivals along y; a transfer of one's own is
    waited for whenever one likes. -/
def lv (g : GSem nD τ sig) (_ : Unit) : ℕ :=
  match g.2 with | .reg _ => 1 | .dma s => if (posOf s).1 = 3 then 2 else if (posOf s).1 = 5 then 3 else 0
theorem L_of_ne (g : GSem nD τ sig) (h : g.1.2 ≠ .tc) : L g = ∅ := if_neg h
theorem L_tc (c : Dev nD) (sm : SemLoc sig) : L ((c : Thread nD τ), sm) = {()} := if_pos rfl
theorem lv_dma (d : Dev nD) (p : Fin 6 × Fin 36) (u : Unit) : lv (dmaC d p) u = if p.1 = 3 then 2 else if p.1 = 5 then 3 else 0 := by
  show (if (posOf (sem p)).1 = 3 then 2 else if (posOf (sem p)).1 = 5 then 3 else 0) = _; rw [posOf_sem]

/-- With only arrivals along y still owed, a device may wait for anything but such arrivals. -/
theorem mayWait_OY (c : Dev nD) (n : ℕ) (p : Fin 6 × Fin 36) (hp : p.1 ≠ 5) :
    (levAts L lv : sProp 𝕄) ⊢ MayWait (c : Thread nD τ) (.dma (sem p)) () (OY c n) :=
  MayOwe.of_cut (L := L) (lev := lv) 2 (fun q hq => by rw [Finset.mem_singleton.mp hq, L_tc]; exact Finset.mem_singleton_self _)
    (fun g u hg => by obtain ⟨k, rfl⟩ := OY_pos hg; exact Finset.mem_singleton_self _)
    (fun q hq => by
      rw [Finset.mem_singleton.mp hq]
      show lv (dmaC c p) () ≤ 2
      rw [lv_dma, if_neg hp]; split <;> omega)
    (fun g u hg => by
      obtain ⟨k, rfl⟩ := OY_pos hg
      rw [lv_dma, if_neg (show ¬(5 : Fin 6) = 3 by decide), if_pos rfl]; decide)

/-- With the arrivals along x and y owed, a device may wait for its neighbours to have started. -/
theorem mayWait_bar (c : Dev nD) :
    (levAts L lv : sProp 𝕄) ⊢ MayWait (c : Thread nD τ) (.reg barrier0) () (OX c 0 + OY c 0) := by
  have key : ∀ g u, 0 < (OX c 0 + OY c 0) g u → (∃ k, g = dmaC (xN c) (3, k)) ∨ ∃ k, g = dmaC (yN c) (5, k) := fun g u hg => by
    rw [Pi.add_apply, Finsupp.add_apply] at hg
    by_cases h : 0 < OX c 0 g u
    · exact .inl (OX_pos h)
    · exact .inr (OY_pos (c := c) (n := 0) (u := u) (by omega))
  refine MayOwe.of_cut (L := L) (lev := lv) 1 (fun q hq => by rw [Finset.mem_singleton.mp hq, L_tc]; exact Finset.mem_singleton_self _)
    (fun g u hg => by rcases key g u hg with ⟨k, rfl⟩ | ⟨k, rfl⟩ <;> exact Finset.mem_singleton_self _)
    (fun q hq => by rw [Finset.mem_singleton.mp hq]; exact le_refl 1)
    (fun g u hg => by
      rcases key g u hg with ⟨k, rfl⟩ | ⟨k, rfl⟩
      · rw [lv_dma, if_pos rfl]; decide
      · rw [lv_dma, if_neg (show ¬(5 : Fin 6) = 3 by decide), if_pos rfl]; decide)

end Cert.TwoHop

end
-- ==== Proof.Body.lean ====
/- Each step of the body, for any device and any chunk: what it takes and what it leaves. -/
module

public import proofs.«01_k».proof.Proof.Cells

@[expose] public section

noncomputable section

namespace Cert.TwoHop

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## What every device may use -/

/-- A device's semaphores: the start semaphore and the six arrays. -/
abbrev CK : Type := Unit ⊕ (Fin 6 × Fin 36)
def semOf : CK → SemLoc sig | .inl _ => .reg barrier0 | .inr p => .dma (sem p)
def cellAt (x : Dev nD × CK) : GSem nD τ sig := ((x.1 : Thread nD τ), semOf x.2)

def inv (g : GSem nD τ sig) : sProp 𝕄 := iprop(∃ κ, cellInv ER (Rd m) κ g)
instance inv_persistent (g : GSem nD τ sig) : BI.Persistent (inv m g) := by unfold inv; infer_instance

/-- The invariant of every semaphore, that its round has begun, and the levels. -/
def ctx : sProp 𝕄 :=
  iprop(bigSep Finset.univ (fun x : Dev nD × CK => inv m (cellAt x))
    ∗ bigSep Finset.univ (fun x : Dev nD × CK => reached ER (cellAt x) 0) ∗ levAts L lv)
instance ctx_persistent : BI.Persistent (ctx m) := by unfold ctx; infer_instance

/-- One part of a separating conjunction over a type. -/
theorem pick {I : Type} [Fintype I] [DecidableEq I] (Φ : I → sProp 𝕄) (i : I) : (bigSep Finset.univ Φ : sProp 𝕄) ⊢ Φ i :=
  bigSep_elim (Finset.mem_univ i)

theorem ctx_inv (x : Dev nD × CK) : ctx m ⊢ iprop(∃ κ, cellInv ER (Rd m) κ (cellAt x)) := by
  unfold ctx inv; iintro ⟨H, -, -⟩
  iapply (pick (fun x : Dev nD × CK => iprop(∃ κ, cellInv ER (Rd m) κ (cellAt x))) x); iexact H
theorem ctx_reached (x : Dev nD × CK) : ctx m ⊢ reached ER (cellAt x) 0 := by
  unfold ctx; iintro ⟨-, H, -⟩
  iapply (pick (fun x : Dev nD × CK => (reached ER (cellAt x) 0 : sProp 𝕄)) x); iexact H
theorem ctx_lev : ctx m ⊢ levAts L lv := by unfold ctx; iintro ⟨-, -, H⟩; iexact H

theorem ctx_dma (c : Dev nD) (p : Fin 6 × Fin 36) :
    ctx m ⊢ iprop((∃ κ, cellInv ER (Rd m) κ (dmaC c p)) ∗ reached ER (dmaC c p) 0) := by
  iintro #H
  isplitl []
  · iapply (ctx_inv m (c, .inr p)); iexact H
  · iapply (ctx_reached m (c, .inr p)); iexact H
theorem ctx_bar (c : Dev nD) :
    ctx m ⊢ iprop((∃ κ, cellInv ER (Rd m) κ (barC c)) ∗ reached ER (barC c) 0) := by
  iintro #H
  isplitl []
  · iapply (ctx_inv m (c, .inl ())); iexact H
  · iapply (ctx_reached m (c, .inl ())); iexact H

/-- The token to raise a semaphore of device `c`, -/
abbrev tok (c : Dev nD) (a : Fin 6) (k : Fin 36) : sProp 𝕄 := dutyTok ER (dmaC c (a, k)) 0 false
/-- the credit to wait for it, -/
abbrev crd (c : Dev nD) (a : Fin 6) (k : Fin 36) : sProp 𝕄 := cred (tallyAt (dmaC c (a, k)) () (credit k))
/-- the position before the round, -/
abbrev pos (c : Dev nD) (a : Fin 6) (k : Fin 36) : sProp 𝕄 := atPos ER (dmaC c (a, k)) 0 ∅ 0
/-- and the semaphore back at zero. -/
abbrev zero (c : Dev nD) (a : Fin 6) (k : Fin 36) : sProp 𝕄 := semVal (dmaC c (a, k)) 0
/-- What device `c` owes. -/
abbrev owing (c : Dev nD) (O : CellTallies nD τ sig Unit) : sProp 𝕄 := iprop(∃ W, owes (c : Thread nD τ) O W)

abbrev wpc (c : Dev nD) (p : Pg F) (Q : PUnit → sProp 𝕄) : sProp 𝕄 :=
  wp frame (wpE (defs₀ (F := F)) 𝒱₀ (c : Thread nD τ) none) Set.univ p Q

/-- Waiting for the transfer on a semaphore brings what it carries, and the semaphore is done with. -/
theorem wp_await (c : Dev nD) (a : Fin 6) (k : Fin 36) {sp sp' : Space} {s s' : Shape} {e e' : EltTy}
    {src : Memref sig .tc sp s e} {dst : Memref sig .tc sp' s' e'} {h₁ : src.view.WordExact} {h₂ : dst.view.WordExact}
    (hN : dst.view.dmaCredit = credit k) (O : CellTallies nD τ sig Unit)
    (hO : (levAts L lv : sProp 𝕄) ⊢ MayWait (c : Thread nD τ) (.dma (sem (a, k))) () O) (K : PUnit → Pg F) (Q : PUnit → sProp 𝕄) :
    iprop(ctx m ∗ crd c a k ∗ owing c O ∗ pos c a k)
      ⊢ iprop((owing c O ∗ dmaPay m c a k ∗ zero c a k -∗ wpc c (K ⟨⟩) Q)
        -∗ wpc c (.op (.waitDma2 (sem (a, k)) src dst h₁ h₂) K) Q) := by
  iintro ⟨#Hc, Hcr, ⟨%W, HO⟩, Hat⟩ Hk
  ihave #Hd := (ctx_dma m c (a, k)) $$ Hc
  icases Hd with ⟨⟨%κ, #HI⟩, -⟩
  ihave #Hlev := (ctx_lev m) $$ Hc
  iapply (Rounds.wp_wait_rest_token 𝒱₀ ER (Rd m) (c : Thread nD τ) none (κ := κ)
      (wpE_waitDma2_eq 𝒱₀ (c : Thread nD τ) none Set.univ) (Set.mem_univ _) () (O := O) (W := W) (R := 0) (m := 0) (T := ∅)
      (by rw [Nat.zero_add, expect_dma, hN])) $$ [Hcr HO Hat]
  · isplitr; · iexact HI
    isplitl [Hcr]; · rw [hN]; iexact Hcr
    isplitl [HO]; · iexact HO
    isplitr; · iapply hO; iexact Hlev
    iexact Hat
  iintro ⟨HO, Hat, -, Hpay⟩
  ihave Hpay := (Entails.of_eq (rest_dma m c (a, k))) $$ Hpay
  imod (Rounds.cell_close ER (Rd m) (Set.mem_univ κ) (fun h => h) (R := 0 + 1) (duties_later m (dmaC c (a, k)))) $$ [Hat] with Hz
  · isplitr; · iexact HI
    iexact Hat
  iapply Hk
  isplitl [HO]; · iexists _; iexact HO
  isplitl [Hpay]; · iexact Hpay
  iexact Hz

/-! ## The first step -/

def A1 (c : Dev nD) (k : Fin 36) : sProp 𝕄 :=
  iprop(piece c (xRef c k) fullShare (X m c) ∗ (∃ f, piece c (halfRef xvM k) fullShare f) ∗ (∃ f, piece (xN c) (halfRef commM k) fullShare f)
    ∗ tok c 0 k ∗ tok c 2 k ∗ tok (xN c) 3 k)
def B1 (c : Dev nD) (k : Fin 36) : sProp 𝕄 := iprop(crd c 0 k ∗ crd c 2 k)
def T1 (c : Dev nD) (n : ℕ) : sProp 𝕄 := owing c (OX c n + OY c 0)

theorem wp_step1 (c : Dev nD) (k : Fin 36) (r : Pg F) (Q : PUnit → sProp 𝕄) :
    iprop(ctx m ∗ A1 m c k ∗ T1 c k.val) ⊢ iprop((B1 c k ∗ T1 c (k.val + 1) -∗ wpc c r Q) -∗ wpc c (step1 c k >>= fun _ => r) Q) := by
  unfold step1 A1 B1 T1
  simp only [Prog.lift, Prog.bind_op, Prog.bind_ret, Prog.pure_eq_ret]
  iintro ⟨#Hc, ⟨Hx, ⟨%fv, Hv⟩, ⟨%fm, Hm⟩, Ht0, Ht2, Ht3⟩, ⟨%W, HO⟩⟩ Hk
  ihave #Hd0 := (ctx_dma m c (0, k)) $$ Hc
  icases Hd0 with ⟨⟨%κ0, #HI0⟩, #Hr0⟩
  ihave #Hd2 := (ctx_dma m c (2, k)) $$ Hc
  icases Hd2 with ⟨⟨%κ2, #HI2⟩, #Hr2⟩
  ihave #Hd3 := (ctx_dma m (xN c) (3, k)) $$ Hc
  icases Hd3 with ⟨⟨%κ3, #HI3⟩, #Hr3⟩
  ihave Hx := (piece_halves c (xRef c k) (X m c)).1 $$ Hx
  icases Hx with ⟨HxL, HxR⟩
  iapply (Rounds.wp_copy_pointsTo 𝒱₀ ER (Rd m) (c : Thread nD τ) none (κ := κ0) (src := xRef c k) (dst := halfRef xvM k)
      (sem := .dma (sem (0, k))) (q := fullShare.left) (fs := X m c) (fd := fv) (r := 0) (d := false)
      (by rw [duties_dma]; exact Finset.mem_singleton_self _) () (credit k) rfl (amount_dma m c (0, k) false)
      (by
        rw [payload_dma]; unfold dmaPay
        refine sep_mono_left (Entails.of_eq ?_)
        exact piece_write c (halfRef xvM k) fullShare fv (XV m c) _ (read_XV m c k))) $$ [HxL Hv Ht0]
  · isplitr; · iexact HI0
    isplitl [HxL]; · iexact HxL
    isplitl [Hv]; · iexact Hv
    isplitl [Ht0]; · iexact Ht0
    iexact Hr0
  iintro Hc0
  iapply (Rounds.wp_send_pointsTo 𝒱₀ ER (Rd m) (c : Thread nD τ) none (κ₁ := κ2) (κ₂ := κ3) (c' := (xN c : Thread nD τ))
      (src := xRef c k) (dst := halfRef commM k) (sS := .dma (sem (2, k))) (sem := .dma (sem (3, k)))
      (q := fullShare.right) (fs := X m c) (fd := fm) (r₁ := 0) (r₂ := 0) (d₁ := false) (d₂ := false)
      (by rw [duties_dma]; exact Finset.mem_singleton_self _) (by rw [duties_dma]; exact Finset.mem_singleton_self _)
      () () (credit k) rfl (amount_dma m c (2, k) false) (amount_dma m (xN c) (3, k) false)
      (O₀ := OX c k.val + OY c 0) (OX c (k.val + 1) + OY c 0) (by rw [OX_peel c k]; exact add_right_comm _ _ _) (W := W)
      (by rw [payload_dma]; exact BI.Entails.refl _)
      (by
        rw [payload_dma]; unfold dmaPay
        exact Entails.of_eq (piece_write (xN c) (halfRef commM k) fullShare fm (CM m (xN c)) _ (read_CM m c k)))) $$ [HxR Hm HO Ht2 Ht3]
  · isplitr; · iexact HI2
    isplitr; · iexact HI3
    isplitl [HxR]; · iexact HxR
    isplitl [Hm]; · iexact Hm
    isplitl [HO]; · iexact HO
    isplitl [Ht2]; · iexact Ht2
    isplitr; · iexact Hr2
    isplitl [Ht3]; · iexact Ht3
    iexact Hr3
  iintro ⟨Hc2, HO⟩
  iapply Hk
  isplitl [Hc0 Hc2]
  · isplitl [Hc0] <;> iassumption
  iexists W; iexact HO

/-! ## The second step -/

theorem pay_xsend (c : Dev nD) (k : Fin 36) : dmaPay m c 2 k = piece c (xRef c k) fullShare.right (X m c) := rfl
theorem pay_xrecv (c : Dev nD) (k : Fin 36) : dmaPay m c 3 k = piece c (halfRef commM k) fullShare (CM m c) := rfl
theorem pay_ysend (c : Dev nD) (k : Fin 36) : dmaPay m c 4 k = piece c (halfRef sumM k) fullShare.right (SM m c) := rfl
theorem pay_yrecv (c : Dev nD) (k : Fin 36) : dmaPay m c 5 k = piece c (outRef (yN c) k) fullShare (OUT m c) := rfl
theorem pay_in (c : Dev nD) (k : Fin 36) :
    dmaPay m c 0 k = iprop(piece c (halfRef xvM k) fullShare (XV m c) ∗ piece c (xRef c k) fullShare.left (X m c)) := rfl
theorem pay_out (c : Dev nD) (k : Fin 36) :
    dmaPay m c 1 k = iprop(piece c (outRef c k) fullShare (OUT m c) ∗ piece c (halfRef sumM k) fullShare.left (SM m c)) := rfl

def A2 (c : Dev nD) (k : Fin 36) : sProp 𝕄 :=
  iprop((crd c 0 k ∗ crd c 3 k ∗ pos c 0 k ∗ pos c 3 k) ∗ (∃ f, piece c (halfRef sumM k) fullShare f)
    ∗ (tok c 1 k ∗ tok c 4 k ∗ tok (yN c) 5 k) ∗ (∃ f, piece c (outRef c k) fullShare f) ∗ (∃ f, piece (yN c) (outRef c k) fullShare f))
def B2 (c : Dev nD) (k : Fin 36) : sProp 𝕄 :=
  iprop((zero c 0 k ∗ zero c 3 k) ∗ piece c (xRef c k) fullShare.left (X m c) ∗ piece c (halfRef xvM k) fullShare (XV m c)
    ∗ piece c (halfRef commM k) fullShare (CM m c) ∗ crd c 1 k ∗ crd c 4 k)
def T2 (c : Dev nD) (n : ℕ) : sProp 𝕄 := owing c (OY c n)

theorem wp_step2 (c : Dev nD) (k : Fin 36) (r : Pg F) (Q : PUnit → sProp 𝕄) :
    iprop(ctx m ∗ A2 c k ∗ T2 c k.val) ⊢ iprop((B2 m c k ∗ T2 c (k.val + 1) -∗ wpc c r Q) -∗ wpc c (step2 c k >>= fun _ => r) Q) := by
  unfold step2 A2 B2 T2
  simp only [Prog.lift, Prog.bind_op, Prog.bind_ret, Prog.pure_eq_ret]
  iintro ⟨#Hc, ⟨⟨Hc0, Hc3, Hp0, Hp3⟩, ⟨%fs, Hs⟩, ⟨Ht1, Ht4, Ht5⟩, ⟨%fo, Ho⟩, ⟨%fn, Hn⟩⟩, HO⟩ Hk
  ihave #Hd1 := (ctx_dma m c (1, k)) $$ Hc
  icases Hd1 with ⟨⟨%κ1, #HI1⟩, #Hr1⟩
  ihave #Hd4 := (ctx_dma m c (4, k)) $$ Hc
  icases Hd4 with ⟨⟨%κ4, #HI4⟩, #Hr4⟩
  ihave #Hd5 := (ctx_dma m (yN c) (5, k)) $$ Hc
  icases Hd5 with ⟨⟨%κ5, #HI5⟩, #Hr5⟩
  -- the neighbour's rows, then the device's own
  iapply (wp_await m c 3 k (src := xRef c k) (dst := halfRef commM k) rfl (OY c k.val) (mayWait_OY c k.val (3, k) (show (3 : Fin 6) ≠ 5 by decide)) _ Q) $$ [Hc3 HO Hp3]
  · isplitr; · iexact Hc
    isplitl [Hc3]; · iexact Hc3
    isplitl [HO]; · iexact HO
    iexact Hp3
  iintro ⟨HO, Hm, Hz3⟩
  ihave Hm := (Entails.of_eq (pay_xrecv m c k)) $$ Hm
  iapply (wp_await m c 0 k (src := xRef c k) (dst := halfRef xvM k) rfl (OY c k.val) (mayWait_OY c k.val (0, k) (show (0 : Fin 6) ≠ 5 by decide)) _ Q) $$ [Hc0 HO Hp0]
  · isplitr; · iexact Hc
    isplitl [Hc0]; · iexact Hc0
    isplitl [HO]; · iexact HO
    iexact Hp0
  iintro ⟨HO, Hvx, Hz0⟩
  ihave Hvx := (Entails.of_eq (pay_in m c k)) $$ Hvx
  icases Hvx with ⟨Hv, Hx⟩
  -- their sum
  iapply (wp_load_rect 𝒱₀ (c : Thread nD τ) none Set.univ (m := xvM) (r := halfRect k) (Finset.Subset.refl _)) $$ Hv; iintro Hv
  iapply (wp_load_rect 𝒱₀ (c : Thread nD τ) none Set.univ (m := commM) (r := halfRect k) (Finset.Subset.refl _)) $$ Hm; iintro Hm
  iapply (wp_load_rect 𝒱₀ (c : Thread nD τ) none Set.univ (m := sumM) (r := halfRect k) (Finset.Subset.refl _)) $$ Hs; iintro Hs
  iapply (wp_store 𝒱₀ (c : Thread nD τ) none Set.univ (m := sumM) (r := halfRect k) (Mk := Finset.univ)
    (S := (sumM.access (halfRect k)).set) (le_of_eq (View.setOn_univ _))) $$ Hs; iintro Hs
  ihave Hs := (Entails.of_eq (piece_write c (halfRef sumM k) fullShare fs (SM m c) _ (read_SM m c k))) $$ Hs
  ihave Hs := (piece_halves c (halfRef sumM k) (SM m c)).1 $$ Hs
  icases Hs with ⟨HsL, HsR⟩
  -- sent to the neighbour along y and copied to the device's own result
  icases HO with ⟨%W, HO⟩
  iapply (Rounds.wp_send_pointsTo 𝒱₀ ER (Rd m) (c : Thread nD τ) none (κ₁ := κ4) (κ₂ := κ5) (c' := (yN c : Thread nD τ))
      (src := halfRef sumM k) (dst := outRef c k) (sS := .dma (sem (4, k))) (sem := .dma (sem (5, k)))
      (q := fullShare.right) (fs := SM m c) (fd := fn) (r₁ := 0) (r₂ := 0) (d₁ := false) (d₂ := false)
      (by rw [duties_dma]; exact Finset.mem_singleton_self _) (by rw [duties_dma]; exact Finset.mem_singleton_self _)
      () () (credit k) rfl (amount_dma m c (4, k) false) (amount_dma m (yN c) (5, k) false)
      (O₀ := OY c k.val) (OY c (k.val + 1)) (OY_peel c k) (W := W)
      (by rw [payload_dma]; exact BI.Entails.refl _)
      (by
        rw [payload_dma]; unfold dmaPay; dsimp only; rw [yN_yN]
        exact Entails.of_eq (piece_write (yN c) (outRef c k) fullShare fn (OUT m (yN c)) _
          (read_OUT m (yN c) c (.inr (yN_yN c).symm) k)))) $$ [HsR Hn HO Ht4 Ht5]
  · isplitr; · iexact HI4
    isplitr; · iexact HI5
    isplitl [HsR]; · iexact HsR
    isplitl [Hn]; · iexact Hn
    isplitl [HO]; · iexact HO
    isplitl [Ht4]; · iexact Ht4
    isplitr; · iexact Hr4
    isplitl [Ht5]; · iexact Ht5
    iexact Hr5
  iintro ⟨Hc4, HO⟩
  iapply (Rounds.wp_copy_pointsTo 𝒱₀ ER (Rd m) (c : Thread nD τ) none (κ := κ1) (src := halfRef sumM k) (dst := outRef c k)
      (sem := .dma (sem (1, k))) (q := fullShare.left) (fs := SM m c) (fd := fo) (r := 0) (d := false)
      (by rw [duties_dma]; exact Finset.mem_singleton_self _) () (credit k) rfl (amount_dma m c (1, k) false)
      (by
        rw [payload_dma]; unfold dmaPay
        refine sep_mono_left (Entails.of_eq ?_)
        exact piece_write c (outRef c k) fullShare fo (OUT m c) _ (read_OUT m c c (.inl rfl) k))) $$ [HsL Ho Ht1]
  · isplitr; · iexact HI1
    isplitl [HsL]; · iexact HsL
    isplitl [Ho]; · iexact Ho
    isplitl [Ht1]; · iexact Ht1
    iexact Hr1
  iintro Hc1
  iapply Hk
  isplitr [HO]
  · isplitl [Hz0 Hz3]; · isplitl [Hz0] <;> iassumption
    isplitl [Hx]; · iexact Hx
    isplitl [Hv]; · iexact Hv
    isplitl [Hm]; · iexact Hm
    isplitl [Hc1] <;> iassumption
  iexists W; iexact HO

/-! ## The third step -/

def A3 (c : Dev nD) (k : Fin 36) : sProp 𝕄 :=
  iprop((crd c 1 k ∗ crd c 2 k ∗ crd c 4 k ∗ crd c 5 k) ∗ pos c 1 k ∗ pos c 2 k ∗ pos c 4 k ∗ pos c 5 k)
def B3 (c : Dev nD) (k : Fin 36) : sProp 𝕄 :=
  iprop((zero c 1 k ∗ zero c 2 k ∗ zero c 4 k ∗ zero c 5 k) ∗ piece c (xRef c k) fullShare.right (X m c)
    ∗ piece c (halfRef sumM k) fullShare (SM m c) ∗ piece c (outRef c k) fullShare (OUT m c) ∗ piece c (outRef (yN c) k) fullShare (OUT m c))
def T3 (c : Dev nD) (_ : ℕ) : sProp 𝕄 := owing c 0

theorem mayWait_none (c : Dev nD) (s : SemLoc sig) : (levAts L lv : sProp 𝕄) ⊢ MayWait (c : Thread nD τ) s () 0 := by
  rw [MayWait_zero]; iintro -; iempintro

theorem wp_step3 (c : Dev nD) (k : Fin 36) (r : Pg F) (Q : PUnit → sProp 𝕄) :
    iprop(ctx m ∗ A3 c k ∗ T3 c k.val) ⊢ iprop((B3 m c k ∗ T3 c (k.val + 1) -∗ wpc c r Q) -∗ wpc c (step3 c k >>= fun _ => r) Q) := by
  unfold step3 A3 B3 T3
  simp only [Prog.lift, Prog.bind_op, Prog.bind_ret, Prog.pure_eq_ret]
  iintro ⟨#Hc, ⟨⟨Hc1, Hc2, Hc4, Hc5⟩, Hp1, Hp2, Hp4, Hp5⟩, HO⟩ Hk
  iapply (wp_await m c 5 k (src := halfRef sumM k) (dst := outRef' c k) rfl 0 (mayWait_none c _) _ Q) $$ [Hc5 HO Hp5]
  · isplitr; · iexact Hc
    isplitl [Hc5]; · iexact Hc5
    isplitl [HO]; · iexact HO
    iexact Hp5
  iintro ⟨HO, Hy, Hz5⟩
  iapply (wp_await m c 1 k (src := halfRef sumM k) (dst := outRef c k) rfl 0 (mayWait_none c _) _ Q) $$ [Hc1 HO Hp1]
  · isplitr; · iexact Hc
    isplitl [Hc1]; · iexact Hc1
    isplitl [HO]; · iexact HO
    iexact Hp1
  iintro ⟨HO, Hos, Hz1⟩
  ihave Hos := (Entails.of_eq (pay_out m c k)) $$ Hos
  icases Hos with ⟨Ho, HsL⟩
  iapply (wp_await m c 2 k (src := halfRef commM k) (dst := xRef c k) rfl 0 (mayWait_none c _) _ Q) $$ [Hc2 HO Hp2]
  · isplitr; · iexact Hc
    isplitl [Hc2]; · iexact Hc2
    isplitl [HO]; · iexact HO
    iexact Hp2
  iintro ⟨HO, Hx, Hz2⟩
  iapply (wp_await m c 4 k (src := outRef c k) (dst := halfRef sumM k) rfl 0 (mayWait_none c _) _ Q) $$ [Hc4 HO Hp4]
  · isplitr; · iexact Hc
    isplitl [Hc4]; · iexact Hc4
    isplitl [HO]; · iexact HO
    iexact Hp4
  iintro ⟨HO, HsR, Hz4⟩
  ihave Hx := (Entails.of_eq (pay_xsend m c k)) $$ Hx
  ihave HsR := (Entails.of_eq (pay_ysend m c k)) $$ HsR
  ihave Hy := (Entails.of_eq (pay_yrecv m c k)) $$ Hy
  iapply Hk
  isplitr [HO]
  · isplitl [Hz1 Hz2 Hz4 Hz5]
    · isplitl [Hz1]; · iexact Hz1
      isplitl [Hz2]; · iexact Hz2
      isplitl [Hz4] <;> iassumption
    isplitl [Hx]; · iexact Hx
    isplitl [HsL HsR]
    · iapply (piece_halves c (halfRef sumM k) (SM m c)).2
      isplitl [HsL]; · iexact HsL
      iexact HsR
    isplitl [Ho]; · iexact Ho
    iexact Hy
  iexact HO

/-! ## All steps of one kind -/

/-- The rule for one step, applied from chunk `k` to the last. -/
theorem wp_steps (c : Dev nD) (R : sProp 𝕄) [BI.Persistent R] (s : Fin 36 → Pg F) (A B : Fin 36 → sProp 𝕄) (T : ℕ → sProp 𝕄) (Q : PUnit → sProp 𝕄)
    (hs : ∀ (k : Fin 36) (r : Pg F), iprop(R ∗ A k ∗ T k.val) ⊢ iprop((B k ∗ T (k.val + 1) -∗ wpc c r Q) -∗ wpc c (s k >>= fun _ => r) Q))
    (r : Pg F) : ∀ (n k : ℕ) (h : n + k = 36),
      iprop(R ∗ bigSep (Finset.univ.filter fun j : Fin 36 => k ≤ j.val) A ∗ T k)
        ⊢ iprop((bigSep (Finset.univ.filter fun j : Fin 36 => k ≤ j.val) B ∗ T 36 -∗ wpc c r Q) -∗ wpc c (steps s n k h r) Q)
  | 0, k, h => by
    obtain rfl : k = 36 := by omega
    rw [filter_end, bigSep_empty, bigSep_empty]
    unfold steps
    iintro ⟨-, -, HT⟩ Hk
    iapply Hk
    isplitr; · iempintro
    iexact HT
  | n + 1, k, h => by
    have hk : k < 36 := by omega
    have ih := wp_steps c R s A B T Q hs r n (k + 1) (by omega)
    have eA : bigSep (Finset.univ.filter fun j : Fin 36 => k ≤ j.val) A
        = iprop(A ⟨k, hk⟩ ∗ bigSep (Finset.univ.filter fun j : Fin 36 => k + 1 ≤ j.val) A) := by
      rw [filter_from k hk]; exact bigSep_insert (filter_from_nmem k hk)
    have eB : bigSep (Finset.univ.filter fun j : Fin 36 => k ≤ j.val) B
        = iprop(B ⟨k, hk⟩ ∗ bigSep (Finset.univ.filter fun j : Fin 36 => k + 1 ≤ j.val) B) := by
      rw [filter_from k hk]; exact bigSep_insert (filter_from_nmem k hk)
    rw [eA, eB]
    unfold steps
    iintro ⟨#HR, ⟨HA, HAs⟩, HT⟩ Hk
    iapply (hs ⟨k, hk⟩ _) $$ [HA HT]
    · isplitr; · iexact HR
      isplitl [HA]; · iexact HA
      iexact HT
    iintro ⟨HB, HT⟩
    iapply ih $$ [HAs HT]
    · isplitr; · iexact HR
      isplitl [HAs]; · iexact HAs
      iexact HT
    iintro ⟨HBs, HT⟩
    iapply Hk
    isplitr [HT]
    · isplitl [HB] <;> iassumption
    iexact HT

end Cert.TwoHop

end
-- ==== Proof.Whole.lean ====
/- The whole body on one device: the buffers cut into their chunks, the handshake, the three rounds of steps, and the
   buffers put together again. -/
module

public import proofs.«01_k».proof.Proof.Body
public import Idealize.ShloMosaic.Lib.Ring

@[expose] public section

noncomputable section

namespace Cert.TwoHop

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Separating conjunctions over small types -/

theorem sep_bool (Φ : Bool → sProp 𝕄) : bigSep Finset.univ Φ = iprop(Φ false ∗ Φ true) := by
  rw [show (Finset.univ : Finset Bool) = insert false {true} from by decide, bigSep_insert (by decide), bigSep_singleton]
  rfl

theorem sep_six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = insert 0 (insert 1 (insert 2 (insert 3 (insert 4 {5})))) from by decide,
    bigSep_insert (by decide), bigSep_insert (by decide), bigSep_insert (by decide), bigSep_insert (by decide),
    bigSep_insert (by decide), bigSep_singleton]
  rfl

/-- Over the six arrays of thirty-six. -/
theorem sep_arrays (Φ : Fin 6 × Fin 36 → sProp 𝕄) :
    bigSep Finset.univ Φ = iprop((bigSep Finset.univ fun k => Φ (0, k)) ∗ (bigSep Finset.univ fun k => Φ (1, k)) ∗ (bigSep Finset.univ fun k => Φ (2, k))
      ∗ (bigSep Finset.univ fun k => Φ (3, k)) ∗ (bigSep Finset.univ fun k => Φ (4, k)) ∗ bigSep Finset.univ fun k => Φ (5, k)) := by
  rw [bigSep_univ_prod, sep_six]

/-- Over the two halves of thirty-six chunks. -/
theorem sep_sides (Φ : Bool × Fin 36 → sProp 𝕄) :
    bigSep Finset.univ Φ = iprop((bigSep Finset.univ fun k => Φ (false, k)) ∗ bigSep Finset.univ fun k => Φ (true, k)) := by
  rw [bigSep_univ_prod, sep_bool]

/-! ## A buffer and its chunks -/

/-- A buffer cut into disjoint parts that leave nothing out. -/
theorem cut {ℓ : Loc nD τ sig} {B : Type} [Fintype B] [DecidableEq B] (I : B → Finset (Idx ℓ)) (hd : ∀ b b', b ≠ b' → Disjoint (I b) (I b'))
    (hc : ∀ i, ∃ b, i ∈ I b) (f : Buf (Elt F) ℓ) : (ℓ ↦{fullShare} f : sProp 𝕄) = bigSep Finset.univ fun b => ℓ ↦[I b]{fullShare} f :=
  Ring.pointsTo_blocks I hd (by ext i; simpa using hc i) f

theorem xv_set (k : Fin 36) : (halfRef xvM k).view.set = (halfRect k).set := View.set_slice_whole cc0_scratch0 (halfRect k)
theorem comm_set (k : Fin 36) : (halfRef commM k).view.set = (halfRect k).set := View.set_slice_whole cc0_scratch1 (halfRect k)
theorem sum_set (k : Fin 36) : (halfRef sumM k).view.set = (halfRect k).set := View.set_slice_whole cc0_scratch2 (halfRect k)
theorem x_set (d : Dev nD) (k : Fin 36) : (xRef d k).view.set = (ownRect d k).set := View.set_slice_whole main_arg0 (ownRect d k)
theorem out_set (d : Dev nD) (k : Fin 36) : (outRef d k).view.set = (ownRect d k).set := View.set_slice_whole main_v1 (ownRect d k)

/-- Every element of a buffer of 2048 rows lies in a chunk, -/
theorem in_half (i : S2048x1024.Idx) : ∃ k, i ∈ (halfRect k).set := by
  have h := Finset.mem_univ i; rw [← half_cover] at h; obtain ⟨k, -, hk⟩ := Finset.mem_biUnion.mp h; exact ⟨k, hk⟩
/-- and every element of one of 4096 rows in a chunk of one of the halves. -/
theorem in_own (d : Dev nD) (i : S4096x1024.Idx) : ∃ p : Bool × Fin 36, i ∈ (ownRect (side d p.1) p.2).set := by
  have h := Finset.mem_univ i; rw [← own_cover d] at h; obtain ⟨k, -, hk⟩ := Finset.mem_biUnion.mp h; exact ⟨k, hk⟩

theorem xv_chunks (c : Dev nD) (f : Buf (Elt F) ((c : Thread nD τ).loc cc0_scratch0)) :
    (((c : Thread nD τ).loc cc0_scratch0) ↦{fullShare} f : sProp 𝕄) = bigSep Finset.univ fun k => piece c (halfRef xvM k) fullShare f :=
  cut (ℓ := (c : Thread nD τ).loc cc0_scratch0) (fun k : Fin 36 => (halfRef xvM k).view.set)
    (fun k k' h => by dsimp only; rw [xv_set k, xv_set k']; exact half_disj k k' h) (fun i => by obtain ⟨k, hk⟩ := in_half i; exact ⟨k, by rw [xv_set k]; exact hk⟩) f
theorem comm_chunks (c : Dev nD) (f : Buf (Elt F) ((c : Thread nD τ).loc cc0_scratch1)) :
    (((c : Thread nD τ).loc cc0_scratch1) ↦{fullShare} f : sProp 𝕄) = bigSep Finset.univ fun k => piece c (halfRef commM k) fullShare f :=
  cut (ℓ := (c : Thread nD τ).loc cc0_scratch1) (fun k : Fin 36 => (halfRef commM k).view.set)
    (fun k k' h => by dsimp only; rw [comm_set k, comm_set k']; exact half_disj k k' h) (fun i => by obtain ⟨k, hk⟩ := in_half i; exact ⟨k, by rw [comm_set k]; exact hk⟩) f
theorem sum_chunks (c : Dev nD) (f : Buf (Elt F) ((c : Thread nD τ).loc cc0_scratch2)) :
    (((c : Thread nD τ).loc cc0_scratch2) ↦{fullShare} f : sProp 𝕄) = bigSep Finset.univ fun k => piece c (halfRef sumM k) fullShare f :=
  cut (ℓ := (c : Thread nD τ).loc cc0_scratch2) (fun k : Fin 36 => (halfRef sumM k).view.set)
    (fun k k' h => by dsimp only; rw [sum_set k, sum_set k']; exact half_disj k k' h) (fun i => by obtain ⟨k, hk⟩ := in_half i; exact ⟨k, by rw [sum_set k]; exact hk⟩) f

theorem x_chunks (c : Dev nD) (f : Buf (Elt F) ((c : Thread nD τ).loc main_arg0)) :
    (((c : Thread nD τ).loc main_arg0) ↦{fullShare} f : sProp 𝕄)
      = iprop((bigSep Finset.univ fun k => piece c (xRef c k) fullShare f) ∗ bigSep Finset.univ fun k => piece c (xRef (yN c) k) fullShare f) :=
  (cut (ℓ := (c : Thread nD τ).loc main_arg0) (fun p : Bool × Fin 36 => (xRef (side c p.1) p.2).view.set)
    (fun p p' h => by dsimp only; rw [x_set (side c p.1) p.2, x_set (side c p'.1) p'.2]; exact own_disj c p p' h)
    (fun i => by obtain ⟨p, hp⟩ := in_own c i; exact ⟨p, by rw [x_set (side c p.1) p.2]; exact hp⟩) f).trans (sep_sides _)
theorem out_chunks (c : Dev nD) (f : Buf (Elt F) ((c : Thread nD τ).loc main_v1)) :
    (((c : Thread nD τ).loc main_v1) ↦{fullShare} f : sProp 𝕄)
      = iprop((bigSep Finset.univ fun k => piece c (outRef c k) fullShare f) ∗ bigSep Finset.univ fun k => piece c (outRef (yN c) k) fullShare f) :=
  (cut (ℓ := (c : Thread nD τ).loc main_v1) (fun p : Bool × Fin 36 => (outRef (side c p.1) p.2).view.set)
    (fun p p' h => by dsimp only; rw [out_set (side c p.1) p.2, out_set (side c p'.1) p'.2]; exact own_disj c p p' h)
    (fun i => by obtain ⟨p, hp⟩ := in_own c i; exact ⟨p, by rw [out_set (side c p.1) p.2]; exact hp⟩) f).trans (sep_sides _)

theorem some_of {A : Type} (P : A → sProp 𝕄) (f : A) : P f ⊢ iprop(∃ f, P f) := by iintro H; iexists f; iexact H

theorem some_all {ℓ : Loc nD τ sig} (I : Fin 36 → Finset (Idx ℓ)) (f : Buf (Elt F) ℓ) :
    (bigSep Finset.univ fun k => (ℓ ↦[I k]{fullShare} f : sProp 𝕄)) ⊢ bigSep Finset.univ fun k => iprop(∃ f, ℓ ↦[I k]{fullShare} f) :=
  bigSep_mono fun k _ => some_of (fun f : Buf (Elt F) ℓ => (ℓ ↦[I k]{fullShare} f : sProp 𝕄)) f

/-- A buffer held at some contents is held in chunks, each at some contents. -/
theorem split_some {ℓ : Loc nD τ sig} {I : Fin 36 → Finset (Idx ℓ)}
    (h : ∀ f : Buf (Elt F) ℓ, (ℓ ↦{fullShare} f : sProp 𝕄) = bigSep Finset.univ fun k => ℓ ↦[I k]{fullShare} f) :
    (iprop(∃ f, ℓ ↦{fullShare} f) : sProp 𝕄) ⊢ bigSep Finset.univ fun k => iprop(∃ f, ℓ ↦[I k]{fullShare} f) := by
  iintro ⟨%f, H⟩
  iapply ((Entails.of_eq (h f)).trans (some_all I f))
  iexact H
/-- Likewise a buffer in two halves of chunks. -/
theorem split_some₂ {ℓ : Loc nD τ sig} {I J : Fin 36 → Finset (Idx ℓ)}
    (h : ∀ f : Buf (Elt F) ℓ, (ℓ ↦{fullShare} f : sProp 𝕄)
      = iprop((bigSep Finset.univ fun k => ℓ ↦[I k]{fullShare} f) ∗ bigSep Finset.univ fun k => ℓ ↦[J k]{fullShare} f)) :
    (iprop(∃ f, ℓ ↦{fullShare} f) : sProp 𝕄)
      ⊢ iprop((bigSep Finset.univ fun k => iprop(∃ f, ℓ ↦[I k]{fullShare} f)) ∗ bigSep Finset.univ fun k => iprop(∃ f, ℓ ↦[J k]{fullShare} f)) := by
  iintro ⟨%f, H⟩
  ihave H := (Entails.of_eq (h f)) $$ H
  icases H with ⟨HI, HJ⟩
  isplitl [HI]
  · iapply (some_all I f); iexact HI
  · iapply (some_all J f); iexact HJ

/-! ## What the steps take and leave, over all chunks -/

theorem A1_all (c : Dev nD) : bigSep Finset.univ (A1 m c)
    = iprop((bigSep Finset.univ fun k => piece c (xRef c k) fullShare (X m c))
      ∗ (bigSep Finset.univ fun k => iprop(∃ f, piece c (halfRef xvM k) fullShare f))
      ∗ (bigSep Finset.univ fun k => iprop(∃ f, piece (xN c) (halfRef commM k) fullShare f))
      ∗ (bigSep Finset.univ fun k => tok c 0 k) ∗ (bigSep Finset.univ fun k => tok c 2 k) ∗ bigSep Finset.univ fun k => tok (xN c) 3 k) := by
  unfold A1; simp only [bigSep_sep']
theorem B1_all (c : Dev nD) : (bigSep Finset.univ (B1 c) : sProp 𝕄)
    = iprop((bigSep Finset.univ fun k => crd c 0 k) ∗ bigSep Finset.univ fun k => crd c 2 k) := by
  unfold B1; simp only [bigSep_sep']
theorem A2_all (c : Dev nD) : (bigSep Finset.univ (A2 c) : sProp 𝕄)
    = iprop(((bigSep Finset.univ fun k => crd c 0 k) ∗ (bigSep Finset.univ fun k => crd c 3 k)
        ∗ (bigSep Finset.univ fun k => pos c 0 k) ∗ (bigSep Finset.univ fun k => pos c 3 k))
      ∗ (bigSep Finset.univ fun k => iprop(∃ f, piece c (halfRef sumM k) fullShare f))
      ∗ ((bigSep Finset.univ fun k => tok c 1 k) ∗ (bigSep Finset.univ fun k => tok c 4 k) ∗ bigSep Finset.univ fun k => tok (yN c) 5 k)
      ∗ (bigSep Finset.univ fun k => iprop(∃ f, piece c (outRef c k) fullShare f))
      ∗ bigSep Finset.univ fun k => iprop(∃ f, piece (yN c) (outRef c k) fullShare f)) := by
  unfold A2; simp only [bigSep_sep']
theorem B2_all (c : Dev nD) : bigSep Finset.univ (B2 m c)
    = iprop(((bigSep Finset.univ fun k => zero c 0 k) ∗ bigSep Finset.univ fun k => zero c 3 k)
      ∗ (bigSep Finset.univ fun k => piece c (xRef c k) fullShare.left (X m c))
      ∗ (bigSep Finset.univ fun k => piece c (halfRef xvM k) fullShare (XV m c))
      ∗ (bigSep Finset.univ fun k => piece c (halfRef commM k) fullShare (CM m c))
      ∗ (bigSep Finset.univ fun k => crd c 1 k) ∗ bigSep Finset.univ fun k => crd c 4 k) := by
  unfold B2; simp only [bigSep_sep']
theorem A3_all (c : Dev nD) : (bigSep Finset.univ (A3 c) : sProp 𝕄)
    = iprop(((bigSep Finset.univ fun k => crd c 1 k) ∗ (bigSep Finset.univ fun k => crd c 2 k)
        ∗ (bigSep Finset.univ fun k => crd c 4 k) ∗ bigSep Finset.univ fun k => crd c 5 k)
      ∗ (bigSep Finset.univ fun k => pos c 1 k) ∗ (bigSep Finset.univ fun k => pos c 2 k)
      ∗ (bigSep Finset.univ fun k => pos c 4 k) ∗ bigSep Finset.univ fun k => pos c 5 k) := by
  unfold A3; simp only [bigSep_sep']
theorem B3_all (c : Dev nD) : bigSep Finset.univ (B3 m c)
    = iprop(((bigSep Finset.univ fun k => zero c 1 k) ∗ (bigSep Finset.univ fun k => zero c 2 k)
        ∗ (bigSep Finset.univ fun k => zero c 4 k) ∗ bigSep Finset.univ fun k => zero c 5 k)
      ∗ (bigSep Finset.univ fun k => piece c (xRef c k) fullShare.right (X m c))
      ∗ (bigSep Finset.univ fun k => piece c (halfRef sumM k) fullShare (SM m c))
      ∗ (bigSep Finset.univ fun k => piece c (outRef c k) fullShare (OUT m c))
      ∗ bigSep Finset.univ fun k => piece c (outRef (yN c) k) fullShare (OUT m c)) := by
  unfold B3; simp only [bigSep_sep']

/-- The two halves of every chunk of the argument, together again. -/
theorem x_join (c : Dev nD) :
    iprop((bigSep Finset.univ fun k => piece c (xRef c k) fullShare.left (X m c)) ∗ bigSep Finset.univ fun k => piece c (xRef c k) fullShare.right (X m c))
      ⊢ bigSep Finset.univ fun k => piece c (xRef c k) fullShare (X m c) := by
  rw [← bigSep_sep']
  exact bigSep_mono fun k _ => (piece_halves c (xRef c k) (X m c)).2

/-! ## What a device has at the start and at the end -/

/-- Its positions, before the one round of each of its semaphores, -/
def places (c : Dev nD) : sProp 𝕄 :=
  iprop(atPos ER (barC c) 0 ∅ 0 ∗ bigSep Finset.univ fun p => atPos ER (dmaC c p) 0 ∅ 0)
/-- the tokens to raise the semaphores that it raises, -/
def payToks (c : Dev nD) : sProp 𝕄 :=
  iprop((dutyTok ER (barC (xN c)) 0 false ∗ dutyTok ER (barC (yN c)) 0 true)
    ∗ (bigSep Finset.univ fun k => tok c 0 k) ∗ (bigSep Finset.univ fun k => tok c 1 k) ∗ (bigSep Finset.univ fun k => tok c 2 k)
    ∗ (bigSep Finset.univ fun k => tok (xN c) 3 k) ∗ (bigSep Finset.univ fun k => tok c 4 k) ∗ bigSep Finset.univ fun k => tok (yN c) 5 k)
/-- the credit for what its neighbours owe it, -/
def dues (c : Dev nD) : sProp 𝕄 :=
  iprop(cred (tallyAt (barC c) () 2) ∗ (bigSep Finset.univ fun k => crd c 3 k) ∗ bigSep Finset.univ fun k => crd c 5 k)
/-- and its argument and result. -/
def start (c : Dev nD) : sProp 𝕄 :=
  iprop(ctx m ∗ places c ∗ payToks c ∗ dues c ∗ (((c : Thread nD τ).loc main_arg0) ↦{fullShare} X m c) ∗ ∃ f, ((c : Thread nD τ).loc main_v1) ↦{fullShare} f)
/-- The working buffers. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- At the end the argument is what it was and the result is the sum. -/
def final (c : Dev nD) : sProp 𝕄 :=
  iprop((((c : Thread nD τ).loc main_arg0) ↦{fullShare} X m c) ∗ ((c : Thread nD τ).loc main_v1) ↦{fullShare} OUT m c)
def Φ₀ (c : Dev nD) : sProp 𝕄 := iprop(start m c ∗ scratch c)
def Φ₁ (c : Dev nD) : sProp 𝕄 :=
  iprop(final m c ∗ scratch c ∗ semVal (barC c) 0 ∗ bigSep Finset.univ fun p => semVal (dmaC c p) 0)

/-! ## The body -/

/-- The body of device `c` turns what it has at the start into what it has at the end, and pays all it owes. -/
theorem wp_body (c : Dev nD) (Q : PUnit → sProp 𝕄) :
    iprop(Φ₀ m c ∗ owing c (O₀ c)) ⊢ iprop((Φ₁ m c ∗ owing c 0 -∗ Q ⟨⟩) -∗ wpc c prog Q) := by
  unfold prog Φ₀ start scratch places payToks dues
  simp only [semSignalWord, semWaitWord, Prog.lift, Prog.bind_op, Prog.bind_ret, Prog.pure_eq_ret, wp_deviceId, dev1_xN c, dev2_yN c]
  rw [sep_arrays]
  iintro ⟨⟨⟨#Hc, ⟨HpB, Hp0, Hp1, Hp2, Hp3, Hp4, Hp5⟩, ⟨⟨HtX, HtY⟩, Ht0, Ht1, Ht2, Ht3, Ht4, Ht5⟩, ⟨HcB, Hc3, Hc5⟩, Hx, Hout⟩, Hv, Hm, Hs⟩, ⟨%W, HO⟩⟩ Hk
  ihave Hx := (Entails.of_eq (x_chunks c (X m c))) $$ Hx
  icases Hx with ⟨Hx, Hx'⟩
  ihave Hout := (split_some₂ (out_chunks c)) $$ Hout
  icases Hout with ⟨Ho, Ho'⟩
  ihave Hv := (split_some (xv_chunks c)) $$ Hv
  ihave Hm := (split_some (comm_chunks c)) $$ Hm
  ihave Hs := (split_some (sum_chunks c)) $$ Hs
  -- the neighbours are told that this device has started
  ihave #HdX := (ctx_bar m (xN c)) $$ Hc
  icases HdX with ⟨⟨%κX, #HIX⟩, #HrX⟩
  ihave #HdY := (ctx_bar m (yN c)) $$ Hc
  icases HdY with ⟨⟨%κY, #HIY⟩, #HrY⟩
  ihave #HdB := (ctx_bar m c) $$ Hc
  icases HdB with ⟨⟨%κB, #HIB⟩, -⟩
  ihave #Hlev := (ctx_lev m) $$ Hc
  iapply (Rounds.wp_signal 𝒱₀ ER (Rd m) (c : Thread nD τ) none (dst := (xN c : Thread nD τ)) (κ := κX) (d := false)
      (by rw [duties_bar]; exact Finset.mem_univ _) ((amount_bar m (xN c) false).trans (by decide)) () (OX c 0 + OY c 0 + tallyAt (barC (yN c)) () 1) rfl)
    $$ [HO HtX Hm]
  · isplitr; · iexact HIX
    isplitl [HO]; · iexact HO
    isplitl [HtX]; · iexact HtX
    isplitl [Hm]
    · rw [payload_bar]; unfold barPay; dsimp only; rw [xN_xN]; iexact Hm
    iexact HrX
  iintro HO
  iapply (Rounds.wp_signal 𝒱₀ ER (Rd m) (c : Thread nD τ) none (dst := (yN c : Thread nD τ)) (κ := κY) (d := true)
      (by rw [duties_bar]; exact Finset.mem_univ _) ((amount_bar m (yN c) true).trans (by decide)) () (OX c 0 + OY c 0) rfl)
    $$ [HO HtY Ho']
  · isplitr; · iexact HIY
    isplitl [HO]; · iexact HO
    isplitl [HtY]; · iexact HtY
    isplitl [Ho']
    · rw [payload_bar]; unfold barPay; dsimp only; rw [yN_yN]; iexact Ho'
    iexact HrY
  iintro HO
  -- and both have: they grant the landing buffer of the one and half the result of the other
  iapply (Rounds.wp_wait_rest_token 𝒱₀ ER (Rd m) (c : Thread nD τ) none (κ := κB)
      (wpE_semWait_eq 𝒱₀ (c : Thread nD τ) none Set.univ) (Set.mem_univ _) () (O := OX c 0 + OY c 0) (W := W) (R := 0) (m := 0) (T := ∅)
      (by rw [expect_bar]; decide)) $$ [HcB HO HpB]
  · isplitr; · iexact HIB
    isplitl [HcB]; · iexact HcB
    isplitl [HO]; · iexact HO
    isplitr; · iapply (mayWait_bar c); iexact Hlev
    iexact HpB
  iintro ⟨HO, HpB, -, Hpay⟩
  ihave Hpay := (Entails.of_eq (rest_bar m c)) $$ Hpay
  unfold barPay
  icases Hpay with ⟨HmX, HoY⟩
  imod (Rounds.cell_close ER (Rd m) (Set.mem_univ κB) (fun h => h) (R := 0 + 1) (duties_later m (barC c))) $$ [HpB] with HzB
  · isplitr; · iexact HIB
    iexact HpB
  -- the first steps
  have s1 := fun r => wp_steps c (ctx m) (step1 c) (A1 m c) (B1 c) (T1 c) Q (fun k r => wp_step1 m c k r Q) r 36 0 rfl
  have s2 := fun r => wp_steps c (ctx m) (step2 c) (A2 c) (B2 m c) (T2 c) Q (fun k r => wp_step2 m c k r Q) r 36 0 rfl
  have s3 := fun r => wp_steps c (ctx m) (step3 c) (A3 c) (B3 m c) (T3 c) Q (fun k r => wp_step3 m c k r Q) r 36 0 rfl
  rw [filter_zero] at s1 s2 s3
  rw [A1_all, B1_all] at s1
  rw [A2_all, B2_all] at s2
  rw [A3_all, B3_all] at s3
  iapply (s1 _) $$ [HO Hx Hv HmX Ht0 Ht2 Ht3]
  · isplitr; · iexact Hc
    isplitr [HO]
    · isplitl [Hx]; · iexact Hx
      isplitl [Hv]; · iexact Hv
      isplitl [HmX]; · iexact HmX
      isplitl [Ht0]; · iexact Ht0
      isplitl [Ht2]; · iexact Ht2
      iexact Ht3
    unfold T1; iexists _; iexact HO
  iintro ⟨⟨Hc0, Hc2⟩, HO⟩
  -- the second
  ihave HO := (Entails.of_eq (show T1 (F := F) c 36 = T2 c 0 by unfold T1 T2; rw [OX_end, zero_add])) $$ HO
  iapply (s2 _) $$ [HO Hc0 Hc3 Hp0 Hp3 Hs Ht1 Ht4 Ht5 Ho HoY]
  · isplitr; · iexact Hc
    isplitr [HO]
    · isplitl [Hc0 Hc3 Hp0 Hp3]
      · isplitl [Hc0]; · iexact Hc0
        isplitl [Hc3]; · iexact Hc3
        isplitl [Hp0] <;> iassumption
      isplitl [Hs]; · iexact Hs
      isplitl [Ht1 Ht4 Ht5]
      · isplitl [Ht1]; · iexact Ht1
        isplitl [Ht4] <;> iassumption
      isplitl [Ho]; · iexact Ho
      iexact HoY
    iexact HO
  iintro ⟨⟨⟨Hz0, Hz3⟩, HxL, Hv, Hm, Hc1, Hc4⟩, HO⟩
  -- the third
  ihave HO := (Entails.of_eq (show T2 (F := F) c 36 = T3 c 0 by unfold T2 T3; rw [OY_end])) $$ HO
  iapply (s3 _) $$ [HO Hc1 Hc2 Hc4 Hc5 Hp1 Hp2 Hp4 Hp5]
  · isplitr; · iexact Hc
    isplitr [HO]
    · isplitl [Hc1 Hc2 Hc4 Hc5]
      · isplitl [Hc1]; · iexact Hc1
        isplitl [Hc2]; · iexact Hc2
        isplitl [Hc4] <;> iassumption
      isplitl [Hp1]; · iexact Hp1
      isplitl [Hp2]; · iexact Hp2
      isplitl [Hp4] <;> iassumption
    iexact HO
  iintro ⟨⟨⟨Hz1, Hz2, Hz4, Hz5⟩, HxR, Hs, Ho, Hy⟩, HO⟩
  -- everything is whole again
  unfold wpc; rw [wp_ret]; imodintro
  iapply Hk
  unfold T3
  isplitr [HO]
  · unfold Φ₁ final scratch
    rw [sep_arrays]
    isplitl [HxL HxR Hx' Ho Hy]
    · isplitl [HxL HxR Hx']
      · iapply (Entails.of_eq (x_chunks c (X m c)).symm)
        isplitl [HxL HxR]
        · iapply (x_join m c); isplitl [HxL] <;> iassumption
        iexact Hx'
      iapply (Entails.of_eq (out_chunks c (OUT m c)).symm)
      isplitl [Ho] <;> iassumption
    isplitl [Hv Hm Hs]
    · isplitl [Hv]; · iexists XV m c; iapply (Entails.of_eq (xv_chunks c (XV m c)).symm); iexact Hv
      isplitl [Hm]; · iexists CM m c; iapply (Entails.of_eq (comm_chunks c (CM m c)).symm); iexact Hm
      iexists SM m c; iapply (Entails.of_eq (sum_chunks c (SM m c)).symm); iexact Hs
    isplitl [HzB]; · iexact HzB
    isplitl [Hz0]; · iexact Hz0
    isplitl [Hz1]; · iexact Hz1
    isplitl [Hz2]; · iexact Hz2
    isplitl [Hz3]; · iexact Hz3
    isplitl [Hz4] <;> iassumption
  iexact HO

/-! ## As the launch takes it -/

/-- What the body takes and leaves, and what is owed then. -/
def dats (_ : Fin 1) (c : Dev nD) : Dat τ (Elt F) Unit ℕ UU ℕ cfg0 c where
  A w := w.elim0
  after w _ := w.elim0
  Φ t := match t with | ⟨0, _⟩ => Φ₀ m c | ⟨_ + 1, _⟩ => Φ₁ m c
  q _ := fullShare
  owed t := match t with | ⟨0, _⟩ => O₀ c | ⟨_ + 1, _⟩ => 0

set_option maxRecDepth 8000 in
theorem body_row : (defs₀ (F := F)) .tc cfg0.body (cfg0.bodyArgs t0_0 (cfg0.slots t0_0)) = prog := body_eq

theorem dats_first (c : Dev nD) : (dats m 0 c).Φ t0_0.castSucc = Φ₀ m c := rfl
theorem dats_last (c : Dev nD) : (dats m 0 c).Φ t0_0.succ = Φ₁ m c := rfl
theorem owed_first (c : Dev nD) : (dats m 0 c).owed t0_0.castSucc = O₀ c := rfl
theorem owed_last (c : Dev nD) : (dats m 0 c).owed t0_0.succ = 0 := rfl

theorem body_obligation (c : Dev nD) : BodyObligation (dats m 0 c) (defs₀ (F := F)) 𝒱₀ () Set.univ := fun t => by
  rw [fin_N0 t]
  have hW : ∀ Ψ : Fin cfg0.W → sProp 𝕄, bigSep Finset.univ Ψ = iprop(emp) := fun Ψ => bigSep_empty
  rw [hW, hW]
  rewrite [body_row, dats_first, dats_last]
  unfold Dat.owesAt Pipeline.owesWithin
  rewrite [owed_first, owed_last]
  iintro ⟨H, ⟨%W, -, HO⟩, -⟩
  iapply (wp_body m c _) $$ [H HO]
  · isplitl [H]; · iexact H
    iexists W; iexact HO
  iintro ⟨H, ⟨%W', HO⟩⟩
  isplitl [H]; · iexact H
  isplitl [HO]
  · iexists W'
    isplitr; · ipureintro; exact fun _ _ => Or.inl trivial
    iexact HO
  iempintro

end Cert.TwoHop

end
-- ==== Proof.Run.lean ====
/- The run of the whole program: the resources dealt at the start, dealt around the mesh, and what every run ends with. -/
module

public import proofs.«01_k».proof.Proof.Whole
public import Idealize.ShloMosaic.Lib.Quiescent
public import Idealize.ShloMosaic.Lib.Pipeline.CollectiveSegs

@[expose] public section

noncomputable section

namespace Cert.TwoHop

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The cells and their tokens -/

theorem dma_inj {c c' : Dev nD} {p p' : Fin 6 × Fin 36} (h : dmaC c p = dmaC c' p') : c = c' ∧ p = p' :=
  ⟨congrArg (fun g : GSem nD τ sig => g.1.1) h, sem_inj (SemLoc.dma.inj (congrArg Prod.snd h))⟩
theorem bar_inj {c c' : Dev nD} (h : barC c = barC c') : c = c' := congrArg (fun g : GSem nD τ sig => g.1.1) h
theorem bar_ne_dma {c c' : Dev nD} {p : Fin 6 × Fin 36} (h : barC c = dmaC c' p) : False :=
  by have h' : SemLoc.reg barrier0 = SemLoc.dma (sem p) := congrArg Prod.snd h; cases h'

theorem semOf_inj : Function.Injective semOf
  | .inl _, .inl _, _ => rfl
  | .inr _, .inr _, h => congrArg Sum.inr (sem_inj (SemLoc.dma.inj h))
  | .inl _, .inr p, h => by have h' : SemLoc.reg barrier0 = SemLoc.dma (sem p) := h; cases h'
  | .inr p, .inl _, h => by have h' : SemLoc.dma (sem p) = SemLoc.reg barrier0 := h; cases h'

theorem cellAt_inj : Function.Injective cellAt := fun _ _ h =>
  Prod.ext (congrArg (fun g : GSem nD τ sig => g.1.1) h) (semOf_inj (congrArg Prod.snd h))

/-- A token of device `c`: one of the two for its start semaphore, or that of a transfer. -/
abbrev TK : Type := Bool ⊕ (Fin 6 × Fin 36)
def tokAt : Dev nD × TK → GSem nD τ sig × ℕ × Bool
  | (c, .inl b) => (barC c, 0, b)
  | (c, .inr p) => (dmaC c p, 0, false)

theorem tokAt_inj : Function.Injective tokAt
  | (_, .inl _), (_, .inl _), h => Prod.ext (bar_inj (congrArg Prod.fst h)) (congrArg Sum.inl (congrArg (fun x : GSem nD τ sig × ℕ × Bool => x.2.2) h))
  | (_, .inr _), (_, .inr _), h => Prod.ext (dma_inj (congrArg Prod.fst h)).1 (congrArg Sum.inr (dma_inj (congrArg Prod.fst h)).2)
  | (_, .inl _), (_, .inr _), h => (bar_ne_dma (congrArg Prod.fst h)).elim
  | (_, .inr _), (_, .inl _), h => (bar_ne_dma (congrArg Prod.fst h).symm).elim

def allCells : Finset (GSem nD τ sig) := Finset.univ.map ⟨cellAt, cellAt_inj⟩
def allToks : Finset (GSem nD τ sig × ℕ × Bool) := Finset.univ.map ⟨tokAt, tokAt_inj⟩

def u₀ : UU :=
  (initOf (Pipeline.cells cfgs cellOf_inj) (Pipeline.launchToks cfgs cellOf_inj), initOf allCells allToks)

/-- The tokens of device `c`'s own semaphores. -/
def toks (c : Dev nD) : sProp 𝕄 := bigSep Finset.univ fun x : TK => dutyTok ER (tokAt (c, x)).1 (tokAt (c, x)).2.1 (tokAt (c, x)).2.2

/-- What device `c` is dealt. -/
def deal (c : Dev nD) : sProp 𝕄 :=
  iprop((bigSep Finset.univ fun x : CK => roundState ER (Rd m) (cellAt (c, x)) 0)
    ∗ (bigSep Finset.univ fun x : CK => atPos ER (cellAt (c, x)) 0 ∅ 0)
    ∗ (bigSep Finset.univ fun x : CK => reached ER (cellAt (c, x)) 0) ∗ toks c)

theorem fund_all : BI.own (ER (initOf allCells allToks)) ⊢ (|==> bigSep Finset.univ (deal m) : sProp 𝕄) := by
  have hC (Φ : GSem nD τ sig → sProp 𝕄) :
      bigSep allCells Φ = bigSep Finset.univ fun c : Dev nD => bigSep Finset.univ fun x : CK => Φ (cellAt (c, x)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro H
  imod (Rounds.fund ER (Rd m) allCells allToks) $$ H with ⟨Hst, Hr, Hat, Htok⟩
  imodintro
  ihave Hst := (Entails.of_eq (hC fun g => roundState ER (Rd m) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold deal; simp only [bigSep_sep']
  isplitl [Hst]; · iexact Hst
  isplitl [Hat]; · iexact Hat
  isplitl [Hr] <;> iassumption

/-! ## The semaphores at zero -/

/-- The six arrays are the kernel's own. -/
def osem (p : Fin 6 × Fin 36) : SemLoc sig := .dma (sem p)
theorem ownSemFacts : Pipeline.OwnSemFacts cfg0.spec osem where
  isScoped := by decide +kernel
  inj := fun _ _ h => sem_inj (SemLoc.dma.inj h)
  disj := fun _ w => w.elim0

theorem own_zero (c : Dev nD) : (Pipeline.ownSems0 (Ix := Unit) (Name := ℕ) (U := UU) (Lvl := ℕ) (Val := Elt F) (τ := τ) osem c : sProp 𝕄)
    = bigSep Finset.univ fun p => semVal (dmaC c p) 0 := rfl
theorem bar_zero (c : Dev nD) : (unscopedSems0 c : sProp 𝕄) = semVal (barC c) 0 := by
  unfold unscopedSems0; rw [bigSep_eq_bigSepL_of_eq [SemLoc.reg barrier0] (by decide) (by decide)]; rfl

/-- Over the semaphores of a device: the start semaphore and the six arrays. -/
theorem sep_cells (Φ : CK → sProp 𝕄) : bigSep Finset.univ Φ = iprop(Φ (.inl ()) ∗ bigSep Finset.univ fun p => Φ (.inr p)) := by
  rw [bigSep_univ_sum, bigSep_univ_of_subsingleton (i := ())]; rfl

/-! ## The invariants, made for all devices at once -/

theorem alloc (c : Dev nD) :
    iprop(Pipeline.ownSems0 (Ix := Unit) (Name := ℕ) (U := UU) (Lvl := ℕ) (Val := Elt F) (τ := τ) osem c ∗ unscopedSems0 c ∗ deal m c)
      ⊢ |={Set.univ}=> iprop((bigSep Finset.univ fun x : CK => inv m (cellAt (c, x)))
          ∗ (bigSep Finset.univ fun x : CK => atPos ER (cellAt (c, x)) 0 ∅ 0)
          ∗ (bigSep Finset.univ fun x : CK => reached ER (cellAt (c, x)) 0) ∗ toks c) := by
  have hz : (iprop(semVal (barC c) 0 ∗ bigSep Finset.univ fun p => semVal (dmaC c p) 0) : sProp 𝕄) = bigSep Finset.univ fun x : CK => semVal (cellAt (c, x)) 0 :=
    (sep_cells fun x : CK => (semVal (cellAt (c, x)) 0 : sProp 𝕄)).symm
  have hi : iprop((bigSep Finset.univ fun x : CK => semVal (cellAt (c, x)) 0) ∗ bigSep Finset.univ fun x : CK => roundState ER (Rd m) (cellAt (c, x)) 0)
      ⊢ (|={Set.univ}=> bigSep Finset.univ fun x : CK => inv m (cellAt (c, x)) : sProp 𝕄) := by
    rw [← bigSep_sep']; unfold inv
    exact (bigSep_mono fun x _ => (Rounds.body_intro ER (Rd m) (cellAt (c, x))).trans inv_alloc).trans (bigSep_fupd _ _)
  rw [own_zero, bar_zero]
  unfold deal
  iintro ⟨Hd, Hb, Hst, Hat, Hr, Htok⟩
  ihave Hv := (Entails.of_eq hz) $$ [Hd Hb]
  · isplitl [Hb] <;> iassumption
  imod hi $$ [Hv Hst] with Hinv
  · isplitl [Hv] <;> iassumption
  imodintro
  isplitl [Hinv]; · iexact Hinv
  isplitl [Hat]; · iexact Hat
  isplitl [Hr] <;> iassumption

/-- A family over the devices, each handed to its neighbour along x, -/
theorem around_x (Φ : Dev nD → sProp 𝕄) : bigSep Finset.univ Φ = bigSep Finset.univ fun c => Φ (xN c) := bigSep_univ_equiv xSwap Φ
/-- or along y. -/
theorem around_y (Φ : Dev nD → sProp 𝕄) : bigSep Finset.univ Φ = bigSep Finset.univ fun c => Φ (yN c) := bigSep_univ_equiv ySwap Φ

theorem toks_eq (c : Dev nD) : (toks c : sProp 𝕄)
    = iprop((dutyTok ER (barC c) 0 false ∗ dutyTok ER (barC c) 0 true)
      ∗ (bigSep Finset.univ fun k => tok c 0 k) ∗ (bigSep Finset.univ fun k => tok c 1 k) ∗ (bigSep Finset.univ fun k => tok c 2 k)
      ∗ (bigSep Finset.univ fun k => tok c 3 k) ∗ (bigSep Finset.univ fun k => tok c 4 k) ∗ bigSep Finset.univ fun k => tok c 5 k) := by
  unfold toks
  rw [bigSep_univ_sum, sep_bool, sep_arrays]; rfl

/-- The tokens of each device's semaphores go to the devices that raise them. -/
theorem toks_around : (bigSep Finset.univ fun c : Dev nD => (toks c : sProp 𝕄)) = bigSep Finset.univ fun c : Dev nD => payToks c := by
  unfold payToks
  rw [bigSep_congr fun c _ => toks_eq c]
  simp only [bigSep_sep']
  rw [around_x fun c => dutyTok ER (barC c) 0 false, around_y fun c => dutyTok ER (barC c) 0 true,
    around_x fun c => bigSep Finset.univ fun k => tok c 3 k, around_y fun c => bigSep Finset.univ fun k => tok c 5 k]

/-- What is shared by all devices, but for the levels. -/
def shared : sProp 𝕄 :=
  iprop((bigSep Finset.univ fun x : Dev nD × CK => inv m (cellAt x)) ∗ bigSep Finset.univ fun x : Dev nD × CK => reached ER (cellAt x) 0)
instance shared_persistent : BI.Persistent (shared m) := by unfold shared; infer_instance

/-- What the deal becomes. -/
def dealt (c : Dev nD) : sProp 𝕄 := iprop(shared m ∗ places c ∗ payToks c)

theorem regroup :
    (bigSep Finset.univ fun c : Dev nD => iprop((bigSep Finset.univ fun x : CK => inv m (cellAt (c, x)))
          ∗ (bigSep Finset.univ fun x : CK => atPos ER (cellAt (c, x)) 0 ∅ 0)
          ∗ (bigSep Finset.univ fun x : CK => reached ER (cellAt (c, x)) 0) ∗ toks c) : sProp 𝕄)
      ⊢ bigSep Finset.univ (dealt m) := by
  have hp : (bigSep Finset.univ fun c : Dev nD => bigSep Finset.univ fun x : CK => (atPos ER (cellAt (c, x)) 0 ∅ 0 : sProp 𝕄))
      = bigSep Finset.univ fun c : Dev nD => places c :=
    bigSep_congr fun c _ => sep_cells fun x : CK => (atPos ER (cellAt (c, x)) 0 ∅ 0 : sProp 𝕄)
  rw [bigSep_sep', bigSep_sep', bigSep_sep', ← bigSep_univ_prod (fun x : Dev nD × CK => inv m (cellAt x)),
    ← bigSep_univ_prod (fun x : Dev nD × CK => (reached ER (cellAt x) 0 : sProp 𝕄)), hp, toks_around]
  unfold dealt
  simp only [bigSep_sep']
  iintro ⟨#HI, Hp, #HR, Ht⟩
  isplitr
  · iapply (BI.bigSep_of_persistent Finset.univ (shared m))
    unfold shared
    isplitr
    · iexact HI
    · iexact HR
  isplitl [Hp] <;> iassumption

theorem glob :
    (bigSep Finset.univ fun c => iprop(Pipeline.ownSems0 (Ix := Unit) (Name := ℕ) (U := UU) (Lvl := ℕ) (Val := Elt F) (τ := τ) osem c ∗ unscopedSems0 c ∗ deal m c) : sProp 𝕄)
      ⊢ |={Set.univ}=> bigSep Finset.univ (dealt m) :=
  ((bigSep_mono fun c _ => alloc m c).trans (bigSep_fupd _ _)).trans (BI.fupd_mono (regroup m))

/-! ## The credit for what is owed at the start -/

theorem sum_at (c e : Dev nD) (a a' : Fin 6) (k : Fin 36) (ha : a' = a) :
    (∑ j ∈ Finset.univ.filter (fun j : Fin 36 => 0 ≤ j.val), tallyAt (dmaC e (a, j)) () (credit j) : CellTallies nD τ sig Unit) (dmaC c (a', k)) ()
      = if e = c then credit k else 0 := by
  subst ha
  rw [filter_zero, Finset.sum_apply, Finsupp.finset_sum_apply]
  by_cases h : e = c
  · subst h
    rw [if_pos rfl, Finset.sum_eq_single k]
    · rw [tallyAt_apply, if_pos ⟨rfl, rfl⟩]
    · intro j _ hj
      rw [tallyAt_apply, if_neg fun h => hj (congrArg Prod.snd (dma_inj h.1).2).symm]
    · intro h; exact (h (Finset.mem_univ _)).elim
  · rw [if_neg h]
    exact Finset.sum_eq_zero fun j _ => by rw [tallyAt_apply, if_neg fun h' => h (dma_inj h'.1).1.symm]

theorem O₀_at (d : Dev nD) (g : GSem nD τ sig) :
    O₀ d g () = OX d 0 g () + OY d 0 g () + (if g = barC (yN d) then 1 else 0) + (if g = barC (xN d) then 1 else 0) := by
  unfold O₀
  simp only [Pi.add_apply, Finsupp.add_apply, tallyAt_apply, and_true]

theorem OX_bar (d c : Dev nD) : OX d 0 (barC c) () = 0 :=
  Nat.eq_zero_of_not_pos fun h => by obtain ⟨k, hk⟩ := OX_pos h; exact bar_ne_dma hk
theorem OY_bar (d c : Dev nD) : OY d 0 (barC c) () = 0 :=
  Nat.eq_zero_of_not_pos fun h => by obtain ⟨k, hk⟩ := OY_pos h; exact bar_ne_dma hk
theorem OX_y (d c : Dev nD) (k : Fin 36) : OX d 0 (dmaC c (5, k)) () = 0 :=
  Nat.eq_zero_of_not_pos fun h => by
    obtain ⟨j, hj⟩ := OX_pos h; exact absurd (congrArg Prod.fst (dma_inj hj).2) (show ¬(5 : Fin 6) = 3 by decide)
theorem OY_x (d c : Dev nD) (k : Fin 36) : OY d 0 (dmaC c (3, k)) () = 0 :=
  Nat.eq_zero_of_not_pos fun h => by
    obtain ⟨j, hj⟩ := OY_pos h; exact absurd (congrArg Prod.fst (dma_inj hj).2) (show ¬(3 : Fin 6) = 5 by decide)

theorem owed_bar (d c : Dev nD) : O₀ d (barC c) () = (if d = yN c then 1 else 0) + (if d = xN c then 1 else 0) := by
  have hy : (barC c = barC (yN d)) = (d = yN c) :=
    propext ⟨fun h => by rw [bar_inj h, yN_yN], fun h => by rw [h, yN_yN]⟩
  have hx : (barC c = barC (xN d)) = (d = xN c) :=
    propext ⟨fun h => by rw [bar_inj h, xN_xN], fun h => by rw [h, xN_xN]⟩
  rw [O₀_at, OX_bar, OY_bar, Nat.add_zero, Nat.zero_add]
  simp only [hy, hx]
theorem owed_x (d c : Dev nD) (k : Fin 36) : O₀ d (dmaC c (3, k)) () = if d = xN c then credit k else 0 := by
  have hx : (xN d = c) = (d = xN c) := propext ⟨fun h => by rw [← h, xN_xN], fun h => by rw [h, xN_xN]⟩
  rw [O₀_at, OY_x, if_neg fun h => bar_ne_dma h.symm, if_neg fun h => bar_ne_dma h.symm]
  unfold OX
  rw [sum_at c (xN d) 3 3 k rfl]
  simp only [hx, Nat.add_zero]
theorem owed_y (d c : Dev nD) (k : Fin 36) : O₀ d (dmaC c (5, k)) () = if d = yN c then credit k else 0 := by
  have hy : (yN d = c) = (d = yN c) := propext ⟨fun h => by rw [← h, yN_yN], fun h => by rw [h, yN_yN]⟩
  rw [O₀_at, OX_y, if_neg fun h => bar_ne_dma h.symm, if_neg fun h => bar_ne_dma h.symm]
  unfold OY
  rw [sum_at c (yN d) 5 5 k rfl]
  simp only [hy, Nat.add_zero, Nat.zero_add]

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (yN c) fun _ => 1, Finset.sum_ite_eq' Finset.univ (xN c) fun _ => 1, if_pos (Finset.mem_univ _), if_pos (Finset.mem_univ _)]
theorem launch_x (c : Dev nD) (k : Fin 36) :
    tallyOn (dmaC c (3, k)) (launchCredit (Pipeline.owing O₀) 0 (dmaC c (3, k))) = (tallyAt (dmaC c (3, k)) () (credit k) : CellTallies nD τ sig Unit) := by
  unfold tallyAt; refine congrArg _ (Finsupp.ext fun u => ?_); cases u
  rw [Pipeline.launchCredit_owing, Finsupp.single_eq_same, Finset.sum_congr rfl fun d _ => owed_x d c k,
    Finset.sum_ite_eq' Finset.univ (xN c) fun _ => credit k, if_pos (Finset.mem_univ _)]
theorem launch_y (c : Dev nD) (k : Fin 36) :
    tallyOn (dmaC c (5, k)) (launchCredit (Pipeline.owing O₀) 0 (dmaC c (5, k))) = (tallyAt (dmaC c (5, k)) () (credit k) : CellTallies nD τ sig Unit) := by
  unfold tallyAt; refine congrArg _ (Finsupp.ext fun u => ?_); cases u
  rw [Pipeline.launchCredit_owing, Finsupp.single_eq_same, Finset.sum_congr rfl fun d _ => owed_y d c k,
    Finset.sum_ite_eq' Finset.univ (yN c) fun _ => credit k, if_pos (Finset.mem_univ _)]

theorem dues_intro (c : Dev nD) : (Pipeline.launchCred O₀ c : sProp 𝕄) ⊢ dues c := by
  have h : (Pipeline.launchCred O₀ c : sProp 𝕄)
      ⊢ bigSep Finset.univ fun x : CK => cred (tallyOn (cellAt (c, x)) (launchCredit (Pipeline.owing O₀) 0 (cellAt (c, x)))) := by
    unfold Pipeline.launchCred
    refine (bigSep_subset (t := Finset.univ.map ⟨semOf, semOf_inj⟩) (Finset.subset_univ _)).trans ?_
    rw [bigSep_map]; exact BI.Entails.refl _
  refine h.trans ?_
  rw [sep_cells, sep_arrays]
  unfold dues
  iintro ⟨Hb, -, -, -, H3, -, H5⟩
  isplitl [Hb]
  · iapply (Entails.of_eq (congrArg cred (launch_bar c))); iexact Hb
  isplitl [H3]
  · iapply (Entails.of_eq (bigSep_congr fun k _ => congrArg cred (launch_x c k))); iexact H3
  · iapply (Entails.of_eq (bigSep_congr fun k _ => congrArg cred (launch_y c k))); iexact H5

/-! ## The start and the end of each device -/

variable (ρ : Dev nD → PrngReg)

def s₀ : MemSt nD τ sig (Elt F) := ⟨m, fun _ => 0, ρ⟩

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  have hu : (Pipeline.unscopedRestP Pipeline.Prefetch.none cfg0.spec c (fun b => m ((c : Thread nD τ).loc b)) : sProp 𝕄)
      = iprop((((c : Thread nD τ).loc main_arg0) ↦{fullShare} m _) ∗ (((c : Thread nD τ).loc main_v1) ↦{fullShare} m _)) :=
    Pipeline.unscopedRestP_eq_of_list (win := cfg0.spec) (c := c) Pipeline.Prefetch.none _ [main_arg0, main_v1] (by decide) (by decide)
  rw [hu]
  unfold dealt shared start ctx
  iintro ⟨⟨Hx, Ho⟩, #Hlev, Hcr, -, ⟨#HI, #HR⟩, Hp, Ht⟩
  ihave Hd := (dues_intro c) $$ Hcr
  imodintro
  isplitl
  · isplitr
    · isplitr; · iexact HI
      isplitr
      · iexact HR
      · iexact Hlev
    isplitl [Hp]; · iexact Hp
    isplitl [Ht]; · iexact Ht
    isplitl [Hd]; · iexact Hd
    isplitl [Hx]; · iexact Hx
    iexists _; iexact Ho
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

theorem leave (c : Dev nD) :
    (dats m 0 c).Φ (Fin.last cfg0.N)
      ⊢ iprop((unscopedSems0 c ∗ final m c) ∗ Pipeline.ownSems0 osem c ∗ Pipeline.scopedRest cfg0.spec c) := by
  rw [show (dats m 0 c).Φ (Fin.last cfg0.N) = Φ₁ m c from rfl, scopedRest0_eq, own_zero, bar_zero]
  unfold Φ₁ scratch
  iintro ⟨Hf, Hs, Hb, Hd⟩
  isplitl [Hb Hf]; · isplitl [Hb] <;> iassumption
  isplitl [Hd] <;> iassumption

/-- What a state of the memory says of device `c` at the end. -/
def Done (c : Dev nD) (s : MemSt nD τ sig (Elt F)) : Prop :=
  s.mem ((c : Thread nD τ).loc main_arg0) = X m c ∧ s.mem ((c : Thread nD τ).loc main_v1) = OUT m c

theorem final_read (c : Dev nD) (s' : Phys nD τ sig (Elt F)) :
    iprop((unscopedSems0 c ∗ final m c) ∗ emp ∗ SI s')
      ⊢ (|={Set.univ}=> iprop(⌜(∀ sm : SemLoc sig, sm.isScoped .tc = false → s'.mem.sem ((c.tc : Thread nD τ), sm) = 0) ∧ Done m c s'.mem⌝ ∗ SI s') : sProp 𝕄) := by
  unfold final
  iintro ⟨⟨Hu, Hx, Ho⟩, -, HSI⟩
  icombine HSI Hx gives %hx
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro; exact ⟨hu, Buf.eq_of_forall_mem_univ hx, Buf.eq_of_forall_mem_univ ho⟩
  iexact HSI

/-! ## The run -/

set_option maxRecDepth 50000 in
/-- Every run ends, with every semaphore at zero, the arguments as they were and each result the sum of the two halves. -/
theorem run_main : θ_run defs (onTc (τ := τ) (main (F := F))) (s₀ m ρ) (fun r => (∀ c, Done m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := deal m) (G' := dealt m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := fun c => iprop(unscopedSems0 c ∗ final m c)) (Z := fun _ => iprop(emp))
    (hX := start_intro m ρ) (hin := enter m) (hout := leave m)
    (QY := fun c s => (∀ sm : SemLoc sig, sm.isScoped .tc = false → s.sem ((c.tc : Thread nD τ), sm) = 0) ∧ Done m c s)
    (hY := final_read m)
    (hQ := fun _ h hs => ⟨fun c => (h c).2.2.2, sem_eq_zero hs fun c => (h c).2.2.1⟩)

end Cert.TwoHop

end
-- ==== Proof.Value.lean ====
/- The value of the result: each entry is the sum of the two halves of the whole array, which is what the reference adds up. -/
module

public import proofs.«01_k».proof.Proof.Run
public import proofs.«01_k».proof.Proof.Gen.ReferenceIdeal.Run
public import Idealize.ShloMosaic.Lib.Layout
public import Idealize.ShloMosaic.Lib.Pointwise.Reduce
public import Idealize.ShloMosaic.Lib.Pipeline.Value
public import Idealize.ShloMosaic.PureOps.Ideal.Laws

@[expose] public section

noncomputable section

namespace Cert.TwoHop

open Idealize.ShloMosaic
open Idealize.ShloMosaic.TcCoe
open Idealize.SL.Sem
open Cert.KernelIdeal Cert.KernelIdeal.Gen

/-- The whole array, of which the devices at each position along x hold one half. -/
abbrev SW : Shape := ⟨2, ![8192, 1024]⟩
/-- The same array as the reference sees it, its two halves stacked. -/
abbrev SH : Shape := ⟨3, ![2, 4096, 1024]⟩

/-- Entry `i` of half `h` of the whole array. -/
def inHalf (h : Fin 2) (i : S4096x1024.Idx) : SW.Idx
  | ⟨0, _⟩ => ⟨4096 * h.val + (i 0).val, by
      have : (i 0).val < 4096 := (i 0).isLt
      have hh := h.isLt
      show _ < 8192; omega⟩
  | ⟨1, _⟩ => i 1

/-- The half that device `d` holds. -/
def halfOf (d : Dev nD) : Fin 2 := ⟨d.val / 2, by have h : d.val < 4 := d.isLt; omega⟩

theorem up_down (e : Dev nD) (i : S4096x1024.Idx) (h : (i 0).val / 2048 = e.val % 2) : up e (down i) = i := by
  funext a; apply Fin.ext
  match a with
  | ⟨0, _⟩ =>
    show 2048 * (e.val % 2) + (i 0).val % 2048 = (i 0).val
    omega
  | ⟨1, _⟩ => rfl

section
variable (m : (ℓ : Loc nD τ sig) → Buf (Elt Ideal) ℓ)

/-- What a device holds, as a function to the extended reals. -/
abbrev held (d : Dev nD) : S4096x1024.Idx → EReal := X (F := Ideal) m d

theorem total_at (e : Dev nD) (i : S4096x1024.Idx) (h : (i 0).val / 2048 = e.val % 2) :
    (SM (F := Ideal) m e (down i) : EReal) = held m e i + held m (xN e) i := by
  have hs : (SM (F := Ideal) m e (down i) : EReal) = held m e (up e (down i)) + held m (xN e) (up e (down i)) := rfl
  rw [hs, up_down e i h]

/-- An entry of the result, when every device holds its half of `W`. -/
theorem result_at (W : SW.Idx → EReal) (hW : ∀ d i, held m d i = W (inHalf (halfOf d) i)) (c : Dev nD) (i : S4096x1024.Idx) :
    (OUT (F := Ideal) m c i : EReal) = W (inHalf 0 i) + W (inHalf 1 i) := by
  have key : ∀ e : Dev nD, (i 0).val / 2048 = e.val % 2 →
      (SM (F := Ideal) m e (down i) : EReal) = W (inHalf 0 i) + W (inHalf 1 i) := by
    intro e he
    rw [total_at m e i he, hW, hW]
    have hx := xN_div e
    have hd : e.val < 4 := e.isLt
    rcases (by omega : e.val / 2 = 0 ∨ e.val / 2 = 1) with h0 | h0
    · rw [show halfOf e = 0 from Fin.ext h0, show halfOf (xN e) = 1 from Fin.ext (by show (xN e).val / 2 = 1; omega)]
    · rw [show halfOf e = 1 from Fin.ext h0, show halfOf (xN e) = 0 from Fin.ext (by show (xN e).val / 2 = 0; omega)]
      exact @add_comm EReal _ _ _
  have hi : (i 0).val < 4096 := (i 0).isLt
  have hm : c.val % 2 < 2 := Nat.mod_lt _ (by decide)
  by_cases hc : (i 0).val / 2048 = c.val % 2
  · have e : OUT (F := Ideal) m c i = SM (F := Ideal) m c (down i) := by unfold OUT; rw [if_pos hc]
    exact (congrArg (fun z : EReal => z) e).trans (key c hc)
  · have e : OUT (F := Ideal) m c i = SM (F := Ideal) m (yN c) (down i) := by unfold OUT; rw [if_neg hc]
    exact (congrArg (fun z : EReal => z) e).trans (key (yN c) (by rw [yN_mod]; omega))

end

/-- The block of the whole array that the mesh gives device `d` is its half. -/
theorem lin_half : ∀ d : Dev nD, ((Layout.meshBlock [2, 2] ![[0], []] d) (0 : Fin 2)).val = d.val / 2 := by decide +kernel
theorem lin_cols : ∀ d : Dev nD, ((Layout.meshBlock [2, 2] ![[0], []] d) (1 : Fin 2)).val = 0 := by decide +kernel

theorem block_at (W : SW.Idx → EReal) (d : Dev nD) (i : S4096x1024.Idx) :
    (Layout.blockN ⟨2, ![4096, 1024]⟩ ⟨2, ![8192, 1024]⟩ (Layout.meshBlock [2, 2] ![[0], []] d) W) i = W (inHalf (halfOf d) i) := by
  rw [Layout.blockN_apply]
  refine congrArg W (funext fun b => Fin.ext ?_)
  match b with
  | ⟨0, _⟩ =>
    show ((Layout.meshBlock [2, 2] ![[0], []] d) (0 : Fin 2)).val * 4096 + (i 0).val = 4096 * (d.val / 2) + (i 0).val
    rw [lin_half]; omega
  | ⟨1, _⟩ =>
    show ((Layout.meshBlock [2, 2] ![[0], []] d) (1 : Fin 2)).val * 1024 + (i 1).val = (i 1).val
    rw [lin_cols]; omega

/-- The reference's result on the whole array `W`. -/
def refOut (W : SW.Idx → EReal) : S4096x1024.Idx → EReal :=
  Host.reduceAdd (F := Ideal) (φ := .f32) (shapeCast _ W Cert.ReferenceIdeal.Facts₀.shapeCasts_S8192x1024_S2x4096x1024)
    (constant (F := Ideal) Cert.ReferenceIdeal.S_ .f32 0x00000000#32)
    Cert.ReferenceIdeal.Facts₀.reducesTo_S2x4096x1024_S4096x1024_d0 Cert.ReferenceIdeal.Facts₀.h_S_

theorem stacked_at (W : SW.Idx → EReal) (hc : SW.ShapeCasts SH) (k : Fin 2) (i : S4096x1024.Idx) (j : SH.Idx)
    (h0 : (j 0).val = k.val) (h1 : (j 1).val = (i 0).val) (h2 : (j 2).val = (i 1).val) :
    shapeCast SH W hc j = W (inHalf k i) := by
  refine shapeCast_apply W hc j (inHalf k i) ?_
  rw [Shape.rowMajor_val_two, Shape.rowMajor_val_three]
  show (4096 * k.val + (i 0).val) * 1024 + (i 1).val = ((j 0).val * 4096 + (j 1).val) * 1024 + (j 2).val
  rw [h0, h1, h2]; omega

theorem refOut_at (W : SW.Idx → EReal) (i : S4096x1024.Idx) : refOut W i = W (inHalf 0 i) + W (inHalf 1 i) := by
  unfold refOut
  rw [Host.reduceAdd_apply, Ideal.hostReduceAdd_def, Ideal.hostReduceAdd_r3_a0, Fin.sum_univ_two,
    stacked_at W _ 0 i _ rfl rfl rfl, stacked_at W _ 1 i _ rfl rfl rfl]
  have h0 : (constant (F := Ideal) Cert.ReferenceIdeal.S_ .f32 0x00000000#32
      (Shape.Idx.first Cert.ReferenceIdeal.Facts₀.h_S_) : EReal) = 0 := Ideal.ofBits_zero_f32
  rw [h0, zero_add]

/-- The kernel's result is the reference's, on every device. -/
theorem result_eq (m : (ℓ : Loc nD τ sig) → Buf (Elt Ideal) ℓ) (W : SW.Idx → EReal)
    (hW : ∀ d : Dev nD, m ((d.tc : Thread nD τ).loc main_arg0) =
      Layout.blockN ⟨2, ![4096, 1024]⟩ ⟨2, ![8192, 1024]⟩ (Layout.meshBlock [2, 2] ![[0], []] d) W) (c : Dev nD) :
    OUT (F := Ideal) m c = refOut W := by
  funext i
  exact (result_at m W (fun d i => (congrFun (hW d) i).trans (block_at W d i)) c i).trans (refOut_at W i).symm

end Cert.TwoHop

end
-- ==== Proof.lean ====
/- The five claims, put together: the three frames, the idealization, and the equation of kernel and reference over the
   extended reals. The run of the kernel is Proof/Run.lean, the equation Proof/Value.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The program as printed for hardware words ends with its argument unchanged and every semaphore at zero. -/
theorem frame_kernel : Cert.quiescent_Kernel (hKernel := Cert.Kernel.Gen.facts) := fun m ρ _ =>
  (θ_run Cert.KernelIdeal.defs _ _).mono (fun _ h => ⟨fun c => (h.1 c).1, h.2⟩) (Cert.TwoHop.run_main (F := Bits) m ρ)

/-- So does its reading over the extended reals. -/
theorem frame_ideal : Cert.quiescent_KernelIdeal (hKernelIdeal := Cert.KernelIdeal.Gen.facts) := fun m ρ _ =>
  (θ_run Cert.KernelIdeal.defs _ _).mono (fun _ h => ⟨fun c => (h.1 c).1, h.2⟩) (Cert.TwoHop.run_main (F := Ideal) m ρ)

/-- So does the reference, which declares no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- Over the extended reals the two programs end with the same result. -/
theorem algebraic : Cert.algebraic_KernelIdeal_ReferenceIdeal (hKernelIdeal := Cert.KernelIdeal.Gen.facts)
    (hReferenceIdeal := Cert.ReferenceIdeal.Gen.facts) := fun m ρ m' ρ' _ hW =>
  ⟨Cert.TwoHop.refOut (m' (((0 : Dev Cert.ReferenceIdeal.nD).tc : Thread Cert.ReferenceIdeal.nD Cert.ReferenceIdeal.τ).loc
      Cert.ReferenceIdeal.main_arg0)),
    (θ_run Cert.KernelIdeal.defs _ _).mono
      (fun _ h c => ⟨(h.1 c).2.trans (Cert.TwoHop.result_eq m _ hW c), (h.1 c).1⟩) (Cert.TwoHop.run_main (F := Ideal) m ρ),
    (θ_run Cert.ReferenceIdeal.defs _ _).mono (fun _ h => h 0) (Cert.ReferenceIdeal.Value.run (F := Ideal) m' ρ')⟩

/-- All the claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
